-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S4x2x512x512 : Shape := ⟨4, ![4, 2, 512, 512]⟩
abbrev S4 : Shape := ⟨1, ![4]⟩
abbrev S_ : Shape := ⟨0, ![]⟩
abbrev S512x512 : Shape := ⟨2, ![512, 512]⟩
abbrev S1x1x512x512 : Shape := ⟨4, ![1, 1, 512, 512]⟩

abbrev nBuf : Space → Nat
  | .hbm => 5
  | .vmem => 3
  | .smem => 2
  | _ => 0

abbrev bufTy : (tb : Table) → Fin (tcTables nBuf tb) → BufTy
  | .hbm, ⟨0, _⟩ => ⟨S4096x512, .fp8e5m2⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S4096x2048, .bf16⟩
  | .local _ .vmem, ⟨0, _⟩ => ⟨S4096x512, .fp8e5m2⟩
  | .local _ .vmem, ⟨1, _⟩ => ⟨S512x2048, .fp8e5m2⟩
  | .local _ .vmem, ⟨2, _⟩ => ⟨S4x2x512x512, .bf16⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 5 16 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_10 : BitVec 32 := 1#32
  let v18 : BitVec 32 := Scalar.muli v16 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_12 : BitVec 32 := 1#32
  let v20 : BitVec 32 := Scalar.muli v10 c1_i32_12
  let v21 : BitVec 32 := Scalar.addi c0_i32_13 v20
  v21.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32 : BitVec 32 := 512#32
  let v25 : BitVec 32 := Scalar.muli v5 c512_i32
  let v26 : Index := Scalar.indexCast v25
  let c0_15 : Index := 0#32
  ![v26.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_24 : BitVec 32 := 1#32
  let v40 : BitVec 32 := Scalar.muli v16 c1_i32_24
  let v41 : BitVec 32 := Scalar.addi c0_i32_25 v40
  v41.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_35 : BitVec 32 := 1#32
  let v44 : BitVec 32 := Scalar.muli v10 c1_i32_35
  let v45 : BitVec 32 := Scalar.addi c0_i32_36 v44
  v45.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_50 : BitVec 32 := 1#32
  let v69 : BitVec 32 := Scalar.muli v16 c1_i32_50
  let v70 : BitVec 32 := Scalar.addi c0_i32_51 v69
  v70.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_61 : BitVec 32 := 1#32
  let v73 : BitVec 32 := Scalar.muli v10 c1_i32_61
  let v74 : BitVec 32 := Scalar.addi c0_i32_62 v73
  v74.toNat
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_76 : BitVec 32 := 1#32
  let v98 : BitVec 32 := Scalar.muli v10 c1_i32_76
  let v99 : BitVec 32 := Scalar.addi c0_i32_77 v98
  v99.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_87 : BitVec 32 := 1#32
  let v102 : BitVec 32 := Scalar.muli v16 c1_i32_87
  let v103 : BitVec 32 := Scalar.addi c0_i32_88 v102
  v103.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_101 : BitVec 32 := 1#32
  let v127 : BitVec 32 := Scalar.muli v10 c1_i32_101
  let v128 : BitVec 32 := Scalar.addi c0_i32_102 v127
  v128.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_112 : BitVec 32 := 1#32
  let v131 : BitVec 32 := Scalar.muli v16 c1_i32_112
  let v132 : BitVec 32 := Scalar.addi c0_i32_113 v131
  v132.toNat
def k0_off2 (d0 : Dev nD) (c0_i32_118 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v141 : BitVec 32 := Scalar.subi v5 c0_i32_118
  let c1_i32_119 : BitVec 32 := 1#32
  let v142 : BitVec 32 := Scalar.subi v141 c1_i32_119
  let c16_i32 : BitVec 32 := 16#32
  let v143 : BitVec 32 := Scalar.addi v142 c16_i32
  let c8_i32_120 : BitVec 32 := 8#32
  let v144 : BitVec 32 := Scalar.remsi v143 c8_i32_120
  let c512_i32_121 : BitVec 32 := 512#32
  let v145 : BitVec 32 := Scalar.muli v144 c512_i32_121
  let v146 : Index := Scalar.indexCast v145
  let c0_122 : Index := 0#32
  ![v146.toNat, 0]
def k0_off3 (d0 : Dev nD) (c0_i32_135 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v167 : BitVec 32 := Scalar.addi v5 c0_i32_135
  let c1_i32_136 : BitVec 32 := 1#32
  let v168 : BitVec 32 := Scalar.addi v167 c1_i32_136
  let c8_i32_137 : BitVec 32 := 8#32
  let v169 : BitVec 32 := Scalar.remsi v168 c8_i32_137
  let c512_i32_138 : BitVec 32 := 512#32
  let v170 : BitVec 32 := Scalar.muli v169 c512_i32_138
  let v171 : Index := Scalar.indexCast v170
  let c0_139 : Index := 0#32
  ![v171.toNat, 0]
def k0_dev11 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_176 : BitVec 32 := 1#32
  let v207 : BitVec 32 := Scalar.muli v16 c1_i32_176
  let v208 : BitVec 32 := Scalar.addi c0_i32_177 v207
  v208.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_195 : BitVec 32 := 1#32
  let v219 : BitVec 32 := Scalar.muli v10 c1_i32_195
  let v220 : BitVec 32 := Scalar.addi c0_i32_196 v219
  v220.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_226 : BitVec 32 := 1#32
  let v245 : BitVec 32 := Scalar.muli v16 c1_i32_226
  let v246 : BitVec 32 := Scalar.addi c0_i32_227 v245
  v246.toNat
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_245 : BitVec 32 := 1#32
  let v257 : BitVec 32 := Scalar.muli v10 c1_i32_245
  let v258 : BitVec 32 := Scalar.addi c0_i32_246 v257
  v258.toNat
def k0_dev15 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_276 : BitVec 32 := 1#32
  let v283 : BitVec 32 := Scalar.muli v10 c1_i32_276
  let v284 : BitVec 32 := Scalar.addi c0_i32_277 v283
  v284.toNat
def k0_dev16 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_295 : BitVec 32 := 1#32
  let v295 : BitVec 32 := Scalar.muli v16 c1_i32_295
  let v296 : BitVec 32 := Scalar.addi c0_i32_296 v295
  v296.toNat
def k0_dev17 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_326 : BitVec 32 := 1#32
  let v321 : BitVec 32 := Scalar.muli v10 c1_i32_326
  let v322 : BitVec 32 := Scalar.addi c0_i32_327 v321
  v322.toNat
def k0_dev18 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_345 : BitVec 32 := 1#32
  let v333 : BitVec 32 := Scalar.muli v16 c1_i32_345
  let v334 : BitVec 32 := Scalar.addi c0_i32_346 v333
  v334.toNat
def k0_dev19 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_410 : BitVec 32 := 1#32
  let v409 : BitVec 32 := Scalar.muli v16 c1_i32_410
  let v410 : BitVec 32 := Scalar.addi c0_i32_411 v409
  v410.toNat
def k0_dev20 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_429 : BitVec 32 := 1#32
  let v421 : BitVec 32 := Scalar.muli v10 c1_i32_429
  let v422 : BitVec 32 := Scalar.addi c0_i32_430 v421
  v422.toNat
def k0_dev21 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_460 : BitVec 32 := 1#32
  let v447 : BitVec 32 := Scalar.muli v16 c1_i32_460
  let v448 : BitVec 32 := Scalar.addi c0_i32_461 v447
  v448.toNat
def k0_dev22 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_479 : BitVec 32 := 1#32
  let v459 : BitVec 32 := Scalar.muli v10 c1_i32_479
  let v460 : BitVec 32 := Scalar.addi c0_i32_480 v459
  v460.toNat
def k0_dev23 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_510 : BitVec 32 := 1#32
  let v485 : BitVec 32 := Scalar.muli v10 c1_i32_510
  let v486 : BitVec 32 := Scalar.addi c0_i32_511 v485
  v486.toNat
def k0_dev24 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_529 : BitVec 32 := 1#32
  let v497 : BitVec 32 := Scalar.muli v16 c1_i32_529
  let v498 : BitVec 32 := Scalar.addi c0_i32_530 v497
  v498.toNat
def k0_dev25 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_560 : BitVec 32 := 1#32
  let v523 : BitVec 32 := Scalar.muli v10 c1_i32_560
  let v524 : BitVec 32 := Scalar.addi c0_i32_561 v523
  v524.toNat
def k0_dev26 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_579 : BitVec 32 := 1#32
  let v535 : BitVec 32 := Scalar.muli v16 c1_i32_579
  let v536 : BitVec 32 := Scalar.addi c0_i32_580 v535
  v536.toNat
def k0_dev27 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_644 : BitVec 32 := 1#32
  let v611 : BitVec 32 := Scalar.muli v16 c1_i32_644
  let v612 : BitVec 32 := Scalar.addi c0_i32_645 v611
  v612.toNat
def k0_dev28 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_663 : BitVec 32 := 1#32
  let v623 : BitVec 32 := Scalar.muli v10 c1_i32_663
  let v624 : BitVec 32 := Scalar.addi c0_i32_664 v623
  v624.toNat
def k0_dev29 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_694 : BitVec 32 := 1#32
  let v649 : BitVec 32 := Scalar.muli v16 c1_i32_694
  let v650 : BitVec 32 := Scalar.addi c0_i32_695 v649
  v650.toNat
def k0_dev30 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_713 : BitVec 32 := 1#32
  let v661 : BitVec 32 := Scalar.muli v10 c1_i32_713
  let v662 : BitVec 32 := Scalar.addi c0_i32_714 v661
  v662.toNat
def k0_dev31 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_744 : BitVec 32 := 1#32
  let v687 : BitVec 32 := Scalar.muli v10 c1_i32_744
  let v688 : BitVec 32 := Scalar.addi c0_i32_745 v687
  v688.toNat
def k0_dev32 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_763 : BitVec 32 := 1#32
  let v699 : BitVec 32 := Scalar.muli v16 c1_i32_763
  let v700 : BitVec 32 := Scalar.addi c0_i32_764 v699
  v700.toNat
def k0_dev33 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_794 : BitVec 32 := 1#32
  let v725 : BitVec 32 := Scalar.muli v10 c1_i32_794
  let v726 : BitVec 32 := Scalar.addi c0_i32_795 v725
  v726.toNat
def k0_dev34 (d0 : Dev nD) : Nat :=
  let c0_i32_814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_813 : BitVec 32 := 1#32
  let v737 : BitVec 32 := Scalar.muli v16 c1_i32_813
  let v738 : BitVec 32 := Scalar.addi c0_i32_814 v737
  v738.toNat
def k0_dev35 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_878 : BitVec 32 := 1#32
  let v813 : BitVec 32 := Scalar.muli v16 c1_i32_878
  let v814 : BitVec 32 := Scalar.addi c0_i32_879 v813
  v814.toNat
def k0_dev36 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_897 : BitVec 32 := 1#32
  let v825 : BitVec 32 := Scalar.muli v10 c1_i32_897
  let v826 : BitVec 32 := Scalar.addi c0_i32_898 v825
  v826.toNat
def k0_dev37 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_928 : BitVec 32 := 1#32
  let v851 : BitVec 32 := Scalar.muli v16 c1_i32_928
  let v852 : BitVec 32 := Scalar.addi c0_i32_929 v851
  v852.toNat
def k0_dev38 (d0 : Dev nD) : Nat :=
  let c0_i32_948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_947 : BitVec 32 := 1#32
  let v863 : BitVec 32 := Scalar.muli v10 c1_i32_947
  let v864 : BitVec 32 := Scalar.addi c0_i32_948 v863
  v864.toNat
def k0_dev39 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_978 : BitVec 32 := 1#32
  let v889 : BitVec 32 := Scalar.muli v10 c1_i32_978
  let v890 : BitVec 32 := Scalar.addi c0_i32_979 v889
  v890.toNat
def k0_dev40 (d0 : Dev nD) : Nat :=
  let c0_i32_998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_997 : BitVec 32 := 1#32
  let v901 : BitVec 32 := Scalar.muli v16 c1_i32_997
  let v902 : BitVec 32 := Scalar.addi c0_i32_998 v901
  v902.toNat
def k0_dev41 (d0 : Dev nD) : Nat :=
  let c0_i32_1029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1028 : BitVec 32 := 1#32
  let v927 : BitVec 32 := Scalar.muli v10 c1_i32_1028
  let v928 : BitVec 32 := Scalar.addi c0_i32_1029 v927
  v928.toNat
def k0_dev42 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1047 : BitVec 32 := 1#32
  let v939 : BitVec 32 := Scalar.muli v16 c1_i32_1047
  let v940 : BitVec 32 := Scalar.addi c0_i32_1048 v939
  v940.toNat
def k0_dev43 (d0 : Dev nD) : Nat :=
  let c0_i32_1113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1112 : BitVec 32 := 1#32
  let v1015 : BitVec 32 := Scalar.muli v16 c1_i32_1112
  let v1016 : BitVec 32 := Scalar.addi c0_i32_1113 v1015
  v1016.toNat
def k0_dev44 (d0 : Dev nD) : Nat :=
  let c0_i32_1132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1131 : BitVec 32 := 1#32
  let v1027 : BitVec 32 := Scalar.muli v10 c1_i32_1131
  let v1028 : BitVec 32 := Scalar.addi c0_i32_1132 v1027
  v1028.toNat
def k0_dev45 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1162 : BitVec 32 := 1#32
  let v1053 : BitVec 32 := Scalar.muli v16 c1_i32_1162
  let v1054 : BitVec 32 := Scalar.addi c0_i32_1163 v1053
  v1054.toNat
def k0_dev46 (d0 : Dev nD) : Nat :=
  let c0_i32_1182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1181 : BitVec 32 := 1#32
  let v1065 : BitVec 32 := Scalar.muli v10 c1_i32_1181
  let v1066 : BitVec 32 := Scalar.addi c0_i32_1182 v1065
  v1066.toNat
def k0_dev47 (d0 : Dev nD) : Nat :=
  let c0_i32_1213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1212 : BitVec 32 := 1#32
  let v1091 : BitVec 32 := Scalar.muli v10 c1_i32_1212
  let v1092 : BitVec 32 := Scalar.addi c0_i32_1213 v1091
  v1092.toNat
def k0_dev48 (d0 : Dev nD) : Nat :=
  let c0_i32_1232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1231 : BitVec 32 := 1#32
  let v1103 : BitVec 32 := Scalar.muli v16 c1_i32_1231
  let v1104 : BitVec 32 := Scalar.addi c0_i32_1232 v1103
  v1104.toNat
def k0_dev49 (d0 : Dev nD) : Nat :=
  let c0_i32_1263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1262 : BitVec 32 := 1#32
  let v1129 : BitVec 32 := Scalar.muli v10 c1_i32_1262
  let v1130 : BitVec 32 := Scalar.addi c0_i32_1263 v1129
  v1130.toNat
def k0_dev50 (d0 : Dev nD) : Nat :=
  let c0_i32_1282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1281 : BitVec 32 := 1#32
  let v1141 : BitVec 32 := Scalar.muli v16 c1_i32_1281
  let v1142 : BitVec 32 := Scalar.addi c0_i32_1282 v1141
  v1142.toNat
def k0_dev51 (d0 : Dev nD) : Nat :=
  let c0_i32_1346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1345 : BitVec 32 := 1#32
  let v1217 : BitVec 32 := Scalar.muli v16 c1_i32_1345
  let v1218 : BitVec 32 := Scalar.addi c0_i32_1346 v1217
  v1218.toNat
def k0_dev52 (d0 : Dev nD) : Nat :=
  let c0_i32_1365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1364 : BitVec 32 := 1#32
  let v1229 : BitVec 32 := Scalar.muli v10 c1_i32_1364
  let v1230 : BitVec 32 := Scalar.addi c0_i32_1365 v1229
  v1230.toNat
def k0_dev53 (d0 : Dev nD) : Nat :=
  let c0_i32_1396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1395 : BitVec 32 := 1#32
  let v1255 : BitVec 32 := Scalar.muli v16 c1_i32_1395
  let v1256 : BitVec 32 := Scalar.addi c0_i32_1396 v1255
  v1256.toNat
def k0_dev54 (d0 : Dev nD) : Nat :=
  let c0_i32_1415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1414 : BitVec 32 := 1#32
  let v1267 : BitVec 32 := Scalar.muli v10 c1_i32_1414
  let v1268 : BitVec 32 := Scalar.addi c0_i32_1415 v1267
  v1268.toNat
def k0_dev55 (d0 : Dev nD) : Nat :=
  let c0_i32_1446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1445 : BitVec 32 := 1#32
  let v1293 : BitVec 32 := Scalar.muli v10 c1_i32_1445
  let v1294 : BitVec 32 := Scalar.addi c0_i32_1446 v1293
  v1294.toNat
def k0_dev56 (d0 : Dev nD) : Nat :=
  let c0_i32_1465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1464 : BitVec 32 := 1#32
  let v1305 : BitVec 32 := Scalar.muli v16 c1_i32_1464
  let v1306 : BitVec 32 := Scalar.addi c0_i32_1465 v1305
  v1306.toNat
def k0_dev57 (d0 : Dev nD) : Nat :=
  let c0_i32_1496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1495 : BitVec 32 := 1#32
  let v1331 : BitVec 32 := Scalar.muli v10 c1_i32_1495
  let v1332 : BitVec 32 := Scalar.addi c0_i32_1496 v1331
  v1332.toNat
def k0_dev58 (d0 : Dev nD) : Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1514 : BitVec 32 := 1#32
  let v1343 : BitVec 32 := Scalar.muli v16 c1_i32_1514
  let v1344 : BitVec 32 := Scalar.addi c0_i32_1515 v1343
  v1344.toNat
def k0_dev59 (d0 : Dev nD) : Nat :=
  let c0_i32_1579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1578 : BitVec 32 := 1#32
  let v1419 : BitVec 32 := Scalar.muli v16 c1_i32_1578
  let v1420 : BitVec 32 := Scalar.addi c0_i32_1579 v1419
  v1420.toNat
def k0_dev60 (d0 : Dev nD) : Nat :=
  let c0_i32_1599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1598 : BitVec 32 := 1#32
  let v1435 : BitVec 32 := Scalar.muli v10 c1_i32_1598
  let v1436 : BitVec 32 := Scalar.addi c0_i32_1599 v1435
  v1436.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_1604 : BitVec 32 := 6#32
  let v1445 : BitVec 32 := Scalar.subi v5 c6_i32_1604
  let c1_i32_1605 : BitVec 32 := 1#32
  let v1446 : BitVec 32 := Scalar.subi v1445 c1_i32_1605
  let c16_i32_1606 : BitVec 32 := 16#32
  let v1447 : BitVec 32 := Scalar.addi v1446 c16_i32_1606
  let c8_i32_1607 : BitVec 32 := 8#32
  let v1448 : BitVec 32 := Scalar.remsi v1447 c8_i32_1607
  let c512_i32_1608 : BitVec 32 := 512#32
  let v1449 : BitVec 32 := Scalar.muli v1448 c512_i32_1608
  let c0_i32_1612 : BitVec 32 := 0#32
  ![v1449.toNat, 0]
def k0_dev61 (d0 : Dev nD) : Nat :=
  let c0_i32_1641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1640 : BitVec 32 := 1#32
  let v1471 : BitVec 32 := Scalar.muli v16 c1_i32_1640
  let v1472 : BitVec 32 := Scalar.addi c0_i32_1641 v1471
  v1472.toNat
def k0_dev62 (d0 : Dev nD) : Nat :=
  let c0_i32_1661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1660 : BitVec 32 := 1#32
  let v1487 : BitVec 32 := Scalar.muli v10 c1_i32_1660
  let v1488 : BitVec 32 := Scalar.addi c0_i32_1661 v1487
  v1488.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_1666 : BitVec 32 := 6#32
  let v1497 : BitVec 32 := Scalar.subi v5 c6_i32_1666
  let c1_i32_1667 : BitVec 32 := 1#32
  let v1498 : BitVec 32 := Scalar.subi v1497 c1_i32_1667
  let c16_i32_1668 : BitVec 32 := 16#32
  let v1499 : BitVec 32 := Scalar.addi v1498 c16_i32_1668
  let c8_i32_1669 : BitVec 32 := 8#32
  let v1500 : BitVec 32 := Scalar.remsi v1499 c8_i32_1669
  let c512_i32_1670 : BitVec 32 := 512#32
  let v1501 : BitVec 32 := Scalar.muli v1500 c512_i32_1670
  let c512_i32_1674 : BitVec 32 := 512#32
  ![v1501.toNat, 512]
def k0_dev63 (d0 : Dev nD) : Nat :=
  let c0_i32_1703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1702 : BitVec 32 := 1#32
  let v1523 : BitVec 32 := Scalar.muli v10 c1_i32_1702
  let v1524 : BitVec 32 := Scalar.addi c0_i32_1703 v1523
  v1524.toNat
def k0_dev64 (d0 : Dev nD) : Nat :=
  let c0_i32_1723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1722 : BitVec 32 := 1#32
  let v1539 : BitVec 32 := Scalar.muli v16 c1_i32_1722
  let v1540 : BitVec 32 := Scalar.addi c0_i32_1723 v1539
  v1540.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_1728 : BitVec 32 := 6#32
  let v1549 : BitVec 32 := Scalar.addi v5 c6_i32_1728
  let c1_i32_1729 : BitVec 32 := 1#32
  let v1550 : BitVec 32 := Scalar.addi v1549 c1_i32_1729
  let c8_i32_1730 : BitVec 32 := 8#32
  let v1551 : BitVec 32 := Scalar.remsi v1550 c8_i32_1730
  let c512_i32_1731 : BitVec 32 := 512#32
  let v1552 : BitVec 32 := Scalar.muli v1551 c512_i32_1731
  let c1024_i32 : BitVec 32 := 1024#32
  ![v1552.toNat, 1024]
def k0_dev65 (d0 : Dev nD) : Nat :=
  let c0_i32_1763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1762 : BitVec 32 := 1#32
  let v1574 : BitVec 32 := Scalar.muli v10 c1_i32_1762
  let v1575 : BitVec 32 := Scalar.addi c0_i32_1763 v1574
  v1575.toNat
def k0_dev66 (d0 : Dev nD) : Nat :=
  let c0_i32_1783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1782 : BitVec 32 := 1#32
  let v1590 : BitVec 32 := Scalar.muli v16 c1_i32_1782
  let v1591 : BitVec 32 := Scalar.addi c0_i32_1783 v1590
  v1591.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_1788 : BitVec 32 := 6#32
  let v1600 : BitVec 32 := Scalar.addi v5 c6_i32_1788
  let c1_i32_1789 : BitVec 32 := 1#32
  let v1601 : BitVec 32 := Scalar.addi v1600 c1_i32_1789
  let c8_i32_1790 : BitVec 32 := 8#32
  let v1602 : BitVec 32 := Scalar.remsi v1601 c8_i32_1790
  let c512_i32_1791 : BitVec 32 := 512#32
  let v1603 : BitVec 32 := Scalar.muli v1602 c512_i32_1791
  let c1536_i32 : BitVec 32 := 1536#32
  ![v1603.toNat, 1536]
def k0_dev67 (d0 : Dev nD) : Nat :=
  let c0_i32_1829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1828 : BitVec 32 := 1#32
  let v1630 : BitVec 32 := Scalar.muli v16 c1_i32_1828
  let v1631 : BitVec 32 := Scalar.addi c0_i32_1829 v1630
  v1631.toNat
def k0_dev68 (d0 : Dev nD) : Nat :=
  let c0_i32_1840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1839 : BitVec 32 := 1#32
  let v1634 : BitVec 32 := Scalar.muli v10 c1_i32_1839
  let v1635 : BitVec 32 := Scalar.addi c0_i32_1840 v1634
  v1635.toNat
def k0_off8 (d0 : Dev nD) (c0_i32_1845 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1644 : BitVec 32 := Scalar.subi v5 c0_i32_1845
  let c16_i32_1846 : BitVec 32 := 16#32
  let v1645 : BitVec 32 := Scalar.addi v1644 c16_i32_1846
  let c8_i32_1847 : BitVec 32 := 8#32
  let v1646 : BitVec 32 := Scalar.remsi v1645 c8_i32_1847
  let c512_i32_1848 : BitVec 32 := 512#32
  let v1647 : BitVec 32 := Scalar.muli v1646 c512_i32_1848
  let c0_i32_1852 : BitVec 32 := 0#32
  ![v1647.toNat, 0]
def k0_dev69 (d0 : Dev nD) : Nat :=
  let c0_i32_1887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1886 : BitVec 32 := 1#32
  let v1674 : BitVec 32 := Scalar.muli v16 c1_i32_1886
  let v1675 : BitVec 32 := Scalar.addi c0_i32_1887 v1674
  v1675.toNat
def k0_dev70 (d0 : Dev nD) : Nat :=
  let c0_i32_1898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1897 : BitVec 32 := 1#32
  let v1678 : BitVec 32 := Scalar.muli v10 c1_i32_1897
  let v1679 : BitVec 32 := Scalar.addi c0_i32_1898 v1678
  v1679.toNat
def k0_off9 (d0 : Dev nD) (c0_i32_1903 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1688 : BitVec 32 := Scalar.subi v5 c0_i32_1903
  let c16_i32_1904 : BitVec 32 := 16#32
  let v1689 : BitVec 32 := Scalar.addi v1688 c16_i32_1904
  let c8_i32_1905 : BitVec 32 := 8#32
  let v1690 : BitVec 32 := Scalar.remsi v1689 c8_i32_1905
  let c512_i32_1906 : BitVec 32 := 512#32
  let v1691 : BitVec 32 := Scalar.muli v1690 c512_i32_1906
  let c512_i32_1910 : BitVec 32 := 512#32
  ![v1691.toNat, 512]
def k0_dev71 (d0 : Dev nD) : Nat :=
  let c0_i32_1945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1944 : BitVec 32 := 1#32
  let v1718 : BitVec 32 := Scalar.muli v10 c1_i32_1944
  let v1719 : BitVec 32 := Scalar.addi c0_i32_1945 v1718
  v1719.toNat
def k0_dev72 (d0 : Dev nD) : Nat :=
  let c0_i32_1956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1955 : BitVec 32 := 1#32
  let v1722 : BitVec 32 := Scalar.muli v16 c1_i32_1955
  let v1723 : BitVec 32 := Scalar.addi c0_i32_1956 v1722
  v1723.toNat
def k0_off10 (d0 : Dev nD) (c0_i32_1961 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1732 : BitVec 32 := Scalar.addi v5 c0_i32_1961
  let c8_i32_1962 : BitVec 32 := 8#32
  let v1733 : BitVec 32 := Scalar.remsi v1732 c8_i32_1962
  let c512_i32_1963 : BitVec 32 := 512#32
  let v1734 : BitVec 32 := Scalar.muli v1733 c512_i32_1963
  let c1024_i32_1967 : BitVec 32 := 1024#32
  ![v1734.toNat, 1024]
def k0_dev73 (d0 : Dev nD) : Nat :=
  let c0_i32_2002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2001 : BitVec 32 := 1#32
  let v1761 : BitVec 32 := Scalar.muli v10 c1_i32_2001
  let v1762 : BitVec 32 := Scalar.addi c0_i32_2002 v1761
  v1762.toNat
def k0_dev74 (d0 : Dev nD) : Nat :=
  let c0_i32_2013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2012 : BitVec 32 := 1#32
  let v1765 : BitVec 32 := Scalar.muli v16 c1_i32_2012
  let v1766 : BitVec 32 := Scalar.addi c0_i32_2013 v1765
  v1766.toNat
def k0_off11 (d0 : Dev nD) (c0_i32_2018 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1775 : BitVec 32 := Scalar.addi v5 c0_i32_2018
  let c8_i32_2019 : BitVec 32 := 8#32
  let v1776 : BitVec 32 := Scalar.remsi v1775 c8_i32_2019
  let c512_i32_2020 : BitVec 32 := 512#32
  let v1777 : BitVec 32 := Scalar.muli v1776 c512_i32_2020
  let c1536_i32_2024 : BitVec 32 := 1536#32
  ![v1777.toNat, 1536]
def k0_dev75 (d0 : Dev nD) : Nat :=
  let c0_i32_2059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2058 : BitVec 32 := 1#32
  let v1804 : BitVec 32 := Scalar.muli v16 c1_i32_2058
  let v1805 : BitVec 32 := Scalar.addi c0_i32_2059 v1804
  v1805.toNat
def k0_dev76 (d0 : Dev nD) : Nat :=
  let c0_i32_2070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2069 : BitVec 32 := 1#32
  let v1808 : BitVec 32 := Scalar.muli v10 c1_i32_2069
  let v1809 : BitVec 32 := Scalar.addi c0_i32_2070 v1808
  v1809.toNat
def k0_dev77 (d0 : Dev nD) : Nat :=
  let c0_i32_2117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2116 : BitVec 32 := 1#32
  let v1848 : BitVec 32 := Scalar.muli v16 c1_i32_2116
  let v1849 : BitVec 32 := Scalar.addi c0_i32_2117 v1848
  v1849.toNat
def k0_dev78 (d0 : Dev nD) : Nat :=
  let c0_i32_2128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2127 : BitVec 32 := 1#32
  let v1852 : BitVec 32 := Scalar.muli v10 c1_i32_2127
  let v1853 : BitVec 32 := Scalar.addi c0_i32_2128 v1852
  v1853.toNat
def k0_dev79 (d0 : Dev nD) : Nat :=
  let c0_i32_2175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2174 : BitVec 32 := 1#32
  let v1892 : BitVec 32 := Scalar.muli v10 c1_i32_2174
  let v1893 : BitVec 32 := Scalar.addi c0_i32_2175 v1892
  v1893.toNat
def k0_dev80 (d0 : Dev nD) : Nat :=
  let c0_i32_2186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2185 : BitVec 32 := 1#32
  let v1896 : BitVec 32 := Scalar.muli v16 c1_i32_2185
  let v1897 : BitVec 32 := Scalar.addi c0_i32_2186 v1896
  v1897.toNat
def k0_dev81 (d0 : Dev nD) : Nat :=
  let c0_i32_2232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2231 : BitVec 32 := 1#32
  let v1935 : BitVec 32 := Scalar.muli v10 c1_i32_2231
  let v1936 : BitVec 32 := Scalar.addi c0_i32_2232 v1935
  v1936.toNat
def k0_dev82 (d0 : Dev nD) : Nat :=
  let c0_i32_2243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2242 : BitVec 32 := 1#32
  let v1939 : BitVec 32 := Scalar.muli v16 c1_i32_2242
  let v1940 : BitVec 32 := Scalar.addi c0_i32_2243 v1939
  v1940.toNat
def k0_dev83 (d0 : Dev nD) : Nat :=
  let c0_i32_2289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2288 : BitVec 32 := 1#32
  let v1978 : BitVec 32 := Scalar.muli v16 c1_i32_2288
  let v1979 : BitVec 32 := Scalar.addi c0_i32_2289 v1978
  v1979.toNat
def k0_dev84 (d0 : Dev nD) : Nat :=
  let c0_i32_2300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2299 : BitVec 32 := 1#32
  let v1982 : BitVec 32 := Scalar.muli v10 c1_i32_2299
  let v1983 : BitVec 32 := Scalar.addi c0_i32_2300 v1982
  v1983.toNat
def k0_dev85 (d0 : Dev nD) : Nat :=
  let c0_i32_2347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2346 : BitVec 32 := 1#32
  let v2022 : BitVec 32 := Scalar.muli v16 c1_i32_2346
  let v2023 : BitVec 32 := Scalar.addi c0_i32_2347 v2022
  v2023.toNat
def k0_dev86 (d0 : Dev nD) : Nat :=
  let c0_i32_2358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2357 : BitVec 32 := 1#32
  let v2026 : BitVec 32 := Scalar.muli v10 c1_i32_2357
  let v2027 : BitVec 32 := Scalar.addi c0_i32_2358 v2026
  v2027.toNat
def k0_dev87 (d0 : Dev nD) : Nat :=
  let c0_i32_2405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2404 : BitVec 32 := 1#32
  let v2066 : BitVec 32 := Scalar.muli v10 c1_i32_2404
  let v2067 : BitVec 32 := Scalar.addi c0_i32_2405 v2066
  v2067.toNat
def k0_dev88 (d0 : Dev nD) : Nat :=
  let c0_i32_2416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2415 : BitVec 32 := 1#32
  let v2070 : BitVec 32 := Scalar.muli v16 c1_i32_2415
  let v2071 : BitVec 32 := Scalar.addi c0_i32_2416 v2070
  v2071.toNat
def k0_dev89 (d0 : Dev nD) : Nat :=
  let c0_i32_2462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2461 : BitVec 32 := 1#32
  let v2109 : BitVec 32 := Scalar.muli v10 c1_i32_2461
  let v2110 : BitVec 32 := Scalar.addi c0_i32_2462 v2109
  v2110.toNat
def k0_dev90 (d0 : Dev nD) : Nat :=
  let c0_i32_2473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2472 : BitVec 32 := 1#32
  let v2113 : BitVec 32 := Scalar.muli v16 c1_i32_2472
  let v2114 : BitVec 32 := Scalar.addi c0_i32_2473 v2113
  v2114.toNat
def k0_dev91 (d0 : Dev nD) : Nat :=
  let c0_i32_2519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2518 : BitVec 32 := 1#32
  let v2152 : BitVec 32 := Scalar.muli v16 c1_i32_2518
  let v2153 : BitVec 32 := Scalar.addi c0_i32_2519 v2152
  v2153.toNat
def k0_dev92 (d0 : Dev nD) : Nat :=
  let c0_i32_2530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2529 : BitVec 32 := 1#32
  let v2156 : BitVec 32 := Scalar.muli v10 c1_i32_2529
  let v2157 : BitVec 32 := Scalar.addi c0_i32_2530 v2156
  v2157.toNat
def k0_dev93 (d0 : Dev nD) : Nat :=
  let c0_i32_2577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2576 : BitVec 32 := 1#32
  let v2196 : BitVec 32 := Scalar.muli v16 c1_i32_2576
  let v2197 : BitVec 32 := Scalar.addi c0_i32_2577 v2196
  v2197.toNat
def k0_dev94 (d0 : Dev nD) : Nat :=
  let c0_i32_2588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2587 : BitVec 32 := 1#32
  let v2200 : BitVec 32 := Scalar.muli v10 c1_i32_2587
  let v2201 : BitVec 32 := Scalar.addi c0_i32_2588 v2200
  v2201.toNat
def k0_dev95 (d0 : Dev nD) : Nat :=
  let c0_i32_2635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2634 : BitVec 32 := 1#32
  let v2240 : BitVec 32 := Scalar.muli v10 c1_i32_2634
  let v2241 : BitVec 32 := Scalar.addi c0_i32_2635 v2240
  v2241.toNat
def k0_dev96 (d0 : Dev nD) : Nat :=
  let c0_i32_2646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2645 : BitVec 32 := 1#32
  let v2244 : BitVec 32 := Scalar.muli v16 c1_i32_2645
  let v2245 : BitVec 32 := Scalar.addi c0_i32_2646 v2244
  v2245.toNat
def k0_dev97 (d0 : Dev nD) : Nat :=
  let c0_i32_2692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2691 : BitVec 32 := 1#32
  let v2283 : BitVec 32 := Scalar.muli v10 c1_i32_2691
  let v2284 : BitVec 32 := Scalar.addi c0_i32_2692 v2283
  v2284.toNat
def k0_dev98 (d0 : Dev nD) : Nat :=
  let c0_i32_2703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2702 : BitVec 32 := 1#32
  let v2287 : BitVec 32 := Scalar.muli v16 c1_i32_2702
  let v2288 : BitVec 32 := Scalar.addi c0_i32_2703 v2287
  v2288.toNat
def k0_dev99 (d0 : Dev nD) : Nat :=
  let c0_i32_2749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2748 : BitVec 32 := 1#32
  let v2326 : BitVec 32 := Scalar.muli v16 c1_i32_2748
  let v2327 : BitVec 32 := Scalar.addi c0_i32_2749 v2326
  v2327.toNat
def k0_dev100 (d0 : Dev nD) : Nat :=
  let c0_i32_2760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2759 : BitVec 32 := 1#32
  let v2330 : BitVec 32 := Scalar.muli v10 c1_i32_2759
  let v2331 : BitVec 32 := Scalar.addi c0_i32_2760 v2330
  v2331.toNat
def k0_dev101 (d0 : Dev nD) : Nat :=
  let c0_i32_2807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2806 : BitVec 32 := 1#32
  let v2370 : BitVec 32 := Scalar.muli v16 c1_i32_2806
  let v2371 : BitVec 32 := Scalar.addi c0_i32_2807 v2370
  v2371.toNat
def k0_dev102 (d0 : Dev nD) : Nat :=
  let c0_i32_2818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2817 : BitVec 32 := 1#32
  let v2374 : BitVec 32 := Scalar.muli v10 c1_i32_2817
  let v2375 : BitVec 32 := Scalar.addi c0_i32_2818 v2374
  v2375.toNat
def k0_dev103 (d0 : Dev nD) : Nat :=
  let c0_i32_2865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2864 : BitVec 32 := 1#32
  let v2414 : BitVec 32 := Scalar.muli v10 c1_i32_2864
  let v2415 : BitVec 32 := Scalar.addi c0_i32_2865 v2414
  v2415.toNat
def k0_dev104 (d0 : Dev nD) : Nat :=
  let c0_i32_2876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2875 : BitVec 32 := 1#32
  let v2418 : BitVec 32 := Scalar.muli v16 c1_i32_2875
  let v2419 : BitVec 32 := Scalar.addi c0_i32_2876 v2418
  v2419.toNat
def k0_dev105 (d0 : Dev nD) : Nat :=
  let c0_i32_2922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2921 : BitVec 32 := 1#32
  let v2457 : BitVec 32 := Scalar.muli v10 c1_i32_2921
  let v2458 : BitVec 32 := Scalar.addi c0_i32_2922 v2457
  v2458.toNat
def k0_dev106 (d0 : Dev nD) : Nat :=
  let c0_i32_2933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2932 : BitVec 32 := 1#32
  let v2461 : BitVec 32 := Scalar.muli v16 c1_i32_2932
  let v2462 : BitVec 32 := Scalar.addi c0_i32_2933 v2461
  v2462.toNat
def k0_dev107 (d0 : Dev nD) : Nat :=
  let c0_i32_2979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2978 : BitVec 32 := 1#32
  let v2500 : BitVec 32 := Scalar.muli v16 c1_i32_2978
  let v2501 : BitVec 32 := Scalar.addi c0_i32_2979 v2500
  v2501.toNat
def k0_dev108 (d0 : Dev nD) : Nat :=
  let c0_i32_2990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2989 : BitVec 32 := 1#32
  let v2504 : BitVec 32 := Scalar.muli v10 c1_i32_2989
  let v2505 : BitVec 32 := Scalar.addi c0_i32_2990 v2504
  v2505.toNat
def k0_dev109 (d0 : Dev nD) : Nat :=
  let c0_i32_3037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3036 : BitVec 32 := 1#32
  let v2544 : BitVec 32 := Scalar.muli v16 c1_i32_3036
  let v2545 : BitVec 32 := Scalar.addi c0_i32_3037 v2544
  v2545.toNat
def k0_dev110 (d0 : Dev nD) : Nat :=
  let c0_i32_3048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3047 : BitVec 32 := 1#32
  let v2548 : BitVec 32 := Scalar.muli v10 c1_i32_3047
  let v2549 : BitVec 32 := Scalar.addi c0_i32_3048 v2548
  v2549.toNat
def k0_dev111 (d0 : Dev nD) : Nat :=
  let c0_i32_3095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3094 : BitVec 32 := 1#32
  let v2588 : BitVec 32 := Scalar.muli v10 c1_i32_3094
  let v2589 : BitVec 32 := Scalar.addi c0_i32_3095 v2588
  v2589.toNat
def k0_dev112 (d0 : Dev nD) : Nat :=
  let c0_i32_3106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3105 : BitVec 32 := 1#32
  let v2592 : BitVec 32 := Scalar.muli v16 c1_i32_3105
  let v2593 : BitVec 32 := Scalar.addi c0_i32_3106 v2592
  v2593.toNat
def k0_dev113 (d0 : Dev nD) : Nat :=
  let c0_i32_3152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3151 : BitVec 32 := 1#32
  let v2631 : BitVec 32 := Scalar.muli v10 c1_i32_3151
  let v2632 : BitVec 32 := Scalar.addi c0_i32_3152 v2631
  v2632.toNat
def k0_dev114 (d0 : Dev nD) : Nat :=
  let c0_i32_3163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3162 : BitVec 32 := 1#32
  let v2635 : BitVec 32 := Scalar.muli v16 c1_i32_3162
  let v2636 : BitVec 32 := Scalar.addi c0_i32_3163 v2635
  v2636.toNat
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .bf16⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .bf16⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Shape.lean ====
/- The kernel's body written once per KIND of step — the entry barrier, the first partial product of a stream, a
   grant, a send, a hop that adds, the hop that finishes, a hop that passes on — and the printed body shown to be
   that program. -/
module

public import proofs.«01_k».proof.Proof.Gen.KernelIdeal.Skeleton
public import Idealize.ShloMosaic.Lib.Tactic

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-! ## The ring's neighbours, the slots, the blocks -/

/-- The device before this one in the ring. -/
abbrev prv (d : Dev nD) : Dev nD := ⟨k0_dev1 d, k0_dev1_lt d⟩
/-- The device after this one in the ring. -/
abbrev nxt (d : Dev nD) : Dev nD := ⟨k0_dev2 d, k0_dev2_lt d⟩
/-- Whom stream `k` sends to: streams 0 and 1 go forward, streams 2 and 3 backward. -/
def dst (k : Fin 4) (d : Dev nD) : Dev nD := if k.val < 2 then nxt d else prv d
/-- Whom stream `k` receives from. -/
def src (k : Fin 4) (d : Dev nD) : Dev nD := if k.val < 2 then prv d else nxt d

/-- The slot a hop of number `h` sends from. -/
def par (h : ℕ) : Fin 2 := ⟨h % 2, Nat.mod_lt _ (by decide)⟩

theorem slot_inb : ∀ (k : Fin 4) (s : Fin 2) (a : Fin 4),
    (![k.val, s.val, 0, 0] : Fin 4 → Nat) a + S1x1x512x512.size a ≤ S4x2x512x512.size a := by decide
/-- Slot `s` of stream `k`, as a rectangle of the scratch buffer. -/
abbrev slotR (k : Fin 4) (s : Fin 2) : Rect S4x2x512x512 :=
  Rect.unit (s := S4x2x512x512) ![k.val, s.val, 0, 0] S1x1x512x512.size (slot_inb k s)
theorem slot_words : ∀ (k : Fin 4) (s : Fin 2), (slotR k s).WholeWords (EltTy.packing .bf16) := by decide
theorem slot_packed : ∀ (k : Fin 4) (s : Fin 2), (slotR k s).PackedRows (EltTy.packing .bf16) := by decide

theorem sem_inb : ∀ (k : Fin 4) (a : Fin 1), (![k.val] : Fin 1 → Nat) a + S1.size a ≤ S4.size a := by decide

theorem col_inb : ∀ (k : Fin 4) (a : Fin 2),
    (![0, 512 * k.val] : Fin 2 → Nat) a + S512x512.size a ≤ S512x2048.size a := by decide
/-- The columns of the weights stream `k` works on. -/
abbrev colR (k : Fin 4) : Rect S512x2048 := Rect.unit (s := S512x2048) ![0, 512 * k.val] S512x512.size (col_inb k)

/-- Where the rows of `x` that stream `k` multiplies at hop `r` begin. -/
def xOff (k : Fin 4) (r : Fin 7) (d : Dev nD) : Fin 2 → Nat :=
  if k.val < 2 then k0_off2 d (BitVec.ofNat 32 r.val) else k0_off3 d (BitVec.ofNat 32 r.val)
theorem xOff_inb (k : Fin 4) (r : Fin 7) (d : Dev nD) : ∀ a, xOff k r d a + S512x512.size a ≤ S4096x512.size a := by
  unfold xOff; split
  · exact k0_off2_inb d r
  · exact k0_off3_inb d r

/-- Where the block of the result begins that stream `k`'s `j`-th store writes. -/
def oOff (k : Fin 4) (j : Fin 8) (d : Dev nD) : Fin 2 → Nat :=
  match k, j with
  | 0, 0 => k0_off4 d
  | 1, 0 => k0_off5 d
  | 2, 0 => k0_off6 d
  | 3, 0 => k0_off7 d
  | 0, ⟨t + 1, _⟩ => k0_off8 d (BitVec.ofNat 32 t)
  | 1, ⟨t + 1, _⟩ => k0_off9 d (BitVec.ofNat 32 t)
  | 2, ⟨t + 1, _⟩ => k0_off10 d (BitVec.ofNat 32 t)
  | 3, ⟨t + 1, _⟩ => k0_off11 d (BitVec.ofNat 32 t)

theorem oOff_ok : ∀ (k : Fin 4) (j : Fin 8) (d : Dev nD), ∃ h : ∀ a, oOff k j d a + S512x512.size a ≤ S4096x2048.size a,
    (Rect.unit (s := S4096x2048) (oOff k j d) S512x512.size h).WholeWords (EltTy.packing .bf16)
  | 0, 0, d => ⟨k0_off4_inb d, k0_off4_wordsbf16 d⟩
  | 1, 0, d => ⟨k0_off5_inb d, k0_off5_wordsbf16 d⟩
  | 2, 0, d => ⟨k0_off6_inb d, k0_off6_wordsbf16 d⟩
  | 3, 0, d => ⟨k0_off7_inb d, k0_off7_wordsbf16 d⟩
  | 0, ⟨t + 1, ht⟩, d => ⟨k0_off8_inb d ⟨t, by omega⟩, k0_off8_wordsbf16 d ⟨t, by omega⟩⟩
  | 1, ⟨t + 1, ht⟩, d => ⟨k0_off9_inb d ⟨t, by omega⟩, k0_off9_wordsbf16 d ⟨t, by omega⟩⟩
  | 2, ⟨t + 1, ht⟩, d => ⟨k0_off10_inb d ⟨t, by omega⟩, k0_off10_wordsbf16 d ⟨t, by omega⟩⟩
  | 3, ⟨t + 1, ht⟩, d => ⟨k0_off11_inb d ⟨t, by omega⟩, k0_off11_wordsbf16 d ⟨t, by omega⟩⟩
theorem oOff_inb (k : Fin 4) (j : Fin 8) (d : Dev nD) : ∀ a, oOff k j d a + S512x512.size a ≤ S4096x2048.size a :=
  (oOff_ok k j d).1
/-- The block of the result stream `k`'s `j`-th store writes. -/
abbrev outR (k : Fin 4) (j : Fin 8) (d : Dev nD) : Rect S4096x2048 :=
  Rect.unit (s := S4096x2048) (oOff k j d) S512x512.size (oOff_inb k j d)
theorem out_words (k : Fin 4) (j : Fin 8) (d : Dev nD) : (outR k j d).WholeWords (EltTy.packing .bf16) := (oOff_ok k j d).2

/-! ## The program -/

section Prog

variable (arg0 : Memref sig .tc .vmem S4096x512 .fp8e5m2) (arg1 : Memref sig .tc .vmem S512x2048 .fp8e5m2)
  (arg2 arg3 : Memref sig .tc .smem S1 .f32)
  (arg4 : Memref sig .tc .hbm S4096x2048 .bf16) (harg4 : arg4.IsWhole)
  (arg5 : Memref sig .tc .vmem S4x2x512x512 .bf16) (harg5 : arg5.IsWhole)
  (arg6 arg7 : DmaSems sig S4) (arg8 : Sems sig S4) (arg9 : DmaSems sig S4)

/-- The kernel's programs. -/
abbrev KP (F : FTy → Type) : Type → Type _ := Prog (TpuEff nD τ sig (Elt F) Λ₀ .tc)

/-- The entry barrier's semaphore. -/
abbrev barS : Fin sig.nSem := (SemArray.scalar (sig.barrier 0 rfl) : Sems sig S_).sem

/-- One DMA semaphore of an array of four. -/
def dsem (a : DmaSems sig S4) (k : Fin 4) : DmaSem sig :=
  ((a.slice (Rect.unit (s := S4) ![k.val] S1.size (sem_inb k))).squeeze S_ squeezes_S1_S_).sem
/-- One counting semaphore of an array of four. -/
def rsem (a : Sems sig S4) (k : Fin 4) : Fin sig.nSem :=
  ((a.slice (Rect.unit (s := S4) ![k.val] S1.size (sem_inb k))).squeeze S_ squeezes_S1_S_).sem

/-- Slot `s` of stream `k`. -/
def slot (k : Fin 4) (s : Fin 2) : Memref sig .tc .vmem S512x512 .bf16 :=
  (arg5.slice (slotR k s) (fun _ => rfl)).squeeze S512x512 squeezes_S1x1x512x512_S512x512
include harg5 in
theorem slot_exact (k : Fin 4) (s : Fin 2) : (slot arg5 k s).view.WordExact :=
  (harg5.wordExact_slice rfl _ (slot_words k s)).reshape _ _

/-- The block of the result stream `k`'s `j`-th store writes. -/
def outB (d : Dev nD) (k : Fin 4) (j : Fin 8) : Memref sig .tc .hbm S512x512 .bf16 :=
  arg4.slice (outR k j d) (fun _ => rfl)
include harg4 in
theorem out_exact (d : Dev nD) (k : Fin 4) (j : Fin 8) : (outB arg4 d k j).view.WordExact :=
  harg4.wordExact_slice rfl _ (out_words k j d)

/-- The entry: both neighbours are told, both are waited for, the two scales are read and multiplied. -/
def entry (d : Dev nD) : KP F (F .f32) := do
  semSignalWord (prv d) barS 1#32
  semSignalWord (nxt d) barS 1#32
  semWaitWord barS 2#32
  let a ← smemLoad arg2 (Rect.unit (s := S1) ![0] S1.size inb_S1_S1_0) numel1_S1 rfl
  let b ← smemLoad arg3 (Rect.unit (s := S1) ![0] S1.size inb_S1_S1_0) numel1_S1 rfl
  pure (k0_pay1 a b)

/-- The slot's sender is let send into it. -/
def grant (d : Dev nD) (k : Fin 4) : KP F PUnit := semSignalWord (src k d) (rsem arg8 k) 1#32

/-- Hop `h` of stream `k` goes out once the receiver has let it. -/
def fire (d : Dev nD) (k : Fin 4) (h : ℕ) : KP F PUnit := do
  semWaitWord (rsem arg8 k) 1#32
  Prog.lift (.enqueueDma (slot arg5 k (par h)) (.remote (Dev.tc (dst k d)) (slot arg5 k (par (h + 1))) (.dma (dsem arg6 k)))
    (.dma (dsem arg7 k)) (slot_exact arg5 harg5 k _) (slot_exact arg5 harg5 k _) ⟨⟨rfl, Or.inl rfl⟩, trivial⟩)

/-- Hop `h` of stream `k` is over on this device: what it sent has left, what it was sent has come. -/
def arrive (k : Fin 4) (h : ℕ) : KP F PUnit := do
  Prog.lift (.waitDma2 (dsem arg6 k) (slot arg5 k (par (h + 1))) (slot arg5 k (par h)) (slot_exact arg5 harg5 k _) (slot_exact arg5 harg5 k _))
  Prog.lift (.waitDma2 (dsem arg7 k) (slot arg5 k (par h)) (slot arg5 k (par (h + 1))) (slot_exact arg5 harg5 k _) (slot_exact arg5 harg5 k _))

/-- A slot is overwritten (what it held is read and dropped first). -/
def put (k : Fin 4) (s : Fin 2) (v : FVec F S1x1x512x512 .bf16) : KP F PUnit := do
  let _ : Vec F S1x1x512x512 .bf16 ← Prog.lift (.load arg5 (slotR k s).toLoadRect (View.loadsAt_vmem h_S1x1x512x512))
  Prog.lift (.store arg5 (slotR k s) v Finset.univ
    (View.stores_vmem h_S1x1x512x512 (harg5.storeExact_slice rfl _ (slot_packed k s)) (fun _ => rfl)) (.inl rfl))

/-- What a slot holds. -/
def get (k : Fin 4) (s : Fin 2) : KP F (Vec F S1x1x512x512 .bf16) :=
  Prog.lift (.load arg5 (slotR k s).toLoadRect (View.loadsAt_vmem h_S1x1x512x512))

/-- A stream's beginning: its first partial product, the first grant, the first send. -/
def init (d : Dev nD) (k : Fin 4) : KP F PUnit := do
  let xs : Vec F S512x512 .fp8e5m2 ← Prog.lift (.load arg0 (Rect.unit (s := S4096x512) (k0_off1 d) S512x512.size (k0_off1_inb d)).toLoadRect (View.loadsAt_vmem h_S512x512))
  let ws : Vec F S512x512 .fp8e5m2 ← Prog.lift (.load arg1 (colR k).toLoadRect (View.loadsAt_vmem h_S512x512))
  put arg5 harg5 k 0 (k0_pay8 xs ws)
  grant arg8 d k
  fire arg5 harg5 arg6 arg7 arg8 d k 0

/-- The partial product stream `k` adds at hop `r`. -/
def part (d : Dev nD) (r : Fin 7) (k : Fin 4) : KP F (FVec F S512x512 .f32) := do
  let xs : Vec F S512x512 .fp8e5m2 ← Prog.lift (.load arg0 (Rect.unit (s := S4096x512) (xOff k r d) S512x512.size (xOff_inb k r d)).toLoadRect (View.loadsAt_vmem h_S512x512))
  let ws : Vec F S512x512 .fp8e5m2 ← Prog.lift (.load arg1 (colR k).toLoadRect (View.loadsAt_vmem h_S512x512))
  pure (k0_pay9 xs ws)

/-- A hop that adds. -/
def addStep (d : Dev nD) (k : Fin 4) (h : ℕ) (p : FVec F S512x512 .f32) : KP F PUnit := do
  arrive arg5 harg5 arg6 arg7 k h
  grant arg8 d k
  let v ← get arg5 k (par (h + 1))
  put arg5 harg5 k (par (h + 1)) (k0_pay13 p v)
  fire arg5 harg5 arg6 arg7 arg8 d k (h + 1)

/-- A finished block goes out to the result. -/
def keep (d : Dev nD) (k : Fin 4) (s : Fin 2) (j : Fin 8) : KP F PUnit :=
  Prog.lift (.enqueueDma (slot arg5 k s) (.here (outB arg4 d k j)) (.dma (dsem arg9 k)) (slot_exact arg5 harg5 k s)
    (out_exact arg4 harg4 d k j) ⟨Or.inl rfl, trivial⟩)
/-- A finished block has gone out to the result. -/
def kept (d : Dev nD) (k : Fin 4) (s : Fin 2) (j : Fin 8) : KP F PUnit :=
  Prog.lift (.waitDma2 (dsem arg9 k) (slot arg5 k s) (outB arg4 d k j) (slot_exact arg5 harg5 k s) (out_exact arg4 harg4 d k j))

/-- The hop that adds last, scales and clips, and from which the finished blocks go round. -/
def finStep (d : Dev nD) (k : Fin 4) (sc : F .f32) (p : FVec F S512x512 .f32) : KP F PUnit := do
  arrive arg5 harg5 arg6 arg7 k 6
  grant arg8 d k
  let v ← get arg5 k (par 7)
  put arg5 harg5 k (par 7) (k0_pay66 sc p v)
  fire arg5 harg5 arg6 arg7 arg8 d k 7
  keep arg4 harg4 arg5 harg5 arg9 d k (par 7) 0

/-- A hop that passes a finished block on. -/
def passStep (d : Dev nD) (t : Fin 6) (k : Fin 4) : KP F PUnit := do
  arrive arg5 harg5 arg6 arg7 k (7 + t.val)
  kept arg4 harg4 arg5 harg5 arg9 d k (par (7 + t.val)) t.castSucc.castSucc
  grant arg8 d k
  fire arg5 harg5 arg6 arg7 arg8 d k (8 + t.val)
  keep arg4 harg4 arg5 harg5 arg9 d k (par (8 + t.val)) t.succ.castSucc

/-- The last hop: the last block is stored and nothing goes on. -/
def lastStep (d : Dev nD) (k : Fin 4) : KP F PUnit := do
  arrive arg5 harg5 arg6 arg7 k 13
  kept arg4 harg4 arg5 harg5 arg9 d k (par 13) 6
  keep arg4 harg4 arg5 harg5 arg9 d k (par 14) 7

/-- The four streams in turn. -/
def four (f : Fin 4 → KP F PUnit) : KP F PUnit := do f 0; f 1; f 2; f 3

/-- A whole hop that adds. -/
def addHop (d : Dev nD) (r : Fin 7) : KP F PUnit := do
  let p0 ← part arg0 arg1 d r 0
  let p1 ← part arg0 arg1 d r 1
  let p2 ← part arg0 arg1 d r 2
  let p3 ← part arg0 arg1 d r 3
  four fun k => addStep arg5 harg5 arg6 arg7 arg8 d k r.val (![p0, p1, p2, p3] k)

/-- The whole hop that finishes. -/
def finHop (d : Dev nD) (sc : F .f32) : KP F PUnit := do
  let p0 ← part arg0 arg1 d 6 0
  let p1 ← part arg0 arg1 d 6 1
  let p2 ← part arg0 arg1 d 6 2
  let p3 ← part arg0 arg1 d 6 3
  four fun k => finStep arg4 harg4 arg5 harg5 arg6 arg7 arg8 arg9 d k sc (![p0, p1, p2, p3] k)

/-- The kernel's body, step by step. -/
def body : KP F PUnit := do
  let d ← Prog.lift .deviceId
  let sc ← entry arg2 arg3 d
  four (init arg0 arg1 arg5 harg5 arg6 arg7 arg8 d)
  addHop arg0 arg1 arg5 harg5 arg6 arg7 arg8 d 0
  addHop arg0 arg1 arg5 harg5 arg6 arg7 arg8 d 1
  addHop arg0 arg1 arg5 harg5 arg6 arg7 arg8 d 2
  addHop arg0 arg1 arg5 harg5 arg6 arg7 arg8 d 3
  addHop arg0 arg1 arg5 harg5 arg6 arg7 arg8 d 4
  addHop arg0 arg1 arg5 harg5 arg6 arg7 arg8 d 5
  finHop arg0 arg1 arg4 harg4 arg5 harg5 arg6 arg7 arg8 arg9 d sc
  four (passStep arg4 harg4 arg5 harg5 arg6 arg7 arg8 arg9 d 0)
  four (passStep arg4 harg4 arg5 harg5 arg6 arg7 arg8 arg9 d 1)
  four (passStep arg4 harg4 arg5 harg5 arg6 arg7 arg8 arg9 d 2)
  four (passStep arg4 harg4 arg5 harg5 arg6 arg7 arg8 arg9 d 3)
  four (passStep arg4 harg4 arg5 harg5 arg6 arg7 arg8 arg9 d 4)
  four (passStep arg4 harg4 arg5 harg5 arg6 arg7 arg8 arg9 d 5)
  four (lastStep arg4 harg4 arg5 harg5 arg6 arg7 arg9 d)
  four fun k => kept arg4 harg4 arg5 harg5 arg9 d k (par 14) 7

end Prog

end Cert.KernelIdeal.Ring

end
-- ==== Proof.Sched.lean ====
/- The ring's protocol: its semaphores, the rounds each goes through, what each round hands over, what a device owes,
   and the levels that make every wait safe. -/
module

public import proofs.«01_k».proof.Proof.Shape
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The algebra: the pipeline's copy and the ring's; a wait is indexed by its round -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

theorem src_dst (k : Fin 4) (c : Dev nD) : src k (dst k c) = c := by revert k c; decide
theorem dst_src (k : Fin 4) (c : Dev nD) : dst k (src k c) = c := by revert k c; decide
theorem nxt_prv (c : Dev nD) : nxt (prv c) = c := by revert c; decide
theorem prv_nxt (c : Dev nD) : prv (nxt c) = c := by revert c; decide

/-- Sending along a stream permutes the devices. -/
def along (k : Fin 4) : Dev nD ≃ Dev nD := ⟨dst k, src k, src_dst k, dst_src k⟩
/-- Going forward permutes the devices. -/
def around : Dev nD ≃ Dev nD := ⟨nxt, prv, prv_nxt, nxt_prv⟩

theorem par_add_two (h : ℕ) : par (h + 2) = par h := Fin.ext (by simp [par])
theorem par_ne (h : ℕ) : par (h + 1) ≠ par h := fun e => by
  have := congrArg Fin.val e; simp only [par] at this; omega

/-! ## Memrefs, blocks, semaphores -/

/-- The result in HBM. -/
abbrev oM : Memref sig .tc .hbm S4096x2048 .bf16 := Memref.whole main_v1
/-- The scratch buffer of the eight slots. -/
abbrev bM : Memref sig .tc .vmem S4x2x512x512 .bf16 := Memref.whole cc0_scratch0

/-- What a slot or a block of the result holds. -/
abbrev Blk (F : FTy → Type) : Type := S512x512.Idx → Elt F .bf16

/-- A stream's four semaphores. -/
inductive Job | sent | come | room | kept
  deriving DecidableEq
instance : Fintype Job := ⟨{.sent, .come, .room, .kept}, fun j => by cases j <;> decide⟩

/-- The ring's semaphores on a device: the barrier's, and four for each stream. -/
abbrev Role : Type := Option (Job × Fin 4)
@[reducible] def csem : Role → SemLoc sig
  | none => .reg barS
  | some (.sent, k) => .dma (dsem cc0_scratch1 k)
  | some (.come, k) => .dma (dsem cc0_scratch2 k)
  | some (.room, k) => .reg (rsem cc0_scratch3 k)
  | some (.kept, k) => .dma (dsem cc0_scratch4 k)
theorem csem_inj : Function.Injective csem := by decide +kernel

/-- A semaphore of a device. -/
abbrev cell (c : Dev nD) (r : Role) : GSem nD τ sig := ((c : Thread nD τ), csem r)
theorem cell_inj : Function.Injective fun cr : Dev nD × Role => cell cr.1 cr.2 := by
  rintro ⟨c, r⟩ ⟨c', r'⟩ h
  have h1 : c = c' := congrArg (fun g : GSem nD τ sig => g.1.1) h
  have h2 : r = r' := csem_inj (congrArg Prod.snd h)
  rw [h1, h2]

/-- Which of the ring's semaphores one is, if any. -/
def role (sm : SemLoc sig) : Option Role := if h : ∃ r, csem r = sm then some (Classical.choose h) else none
theorem role_csem (r : Role) : role (csem r) = some r := by
  have h : ∃ r', csem r' = csem r := ⟨r, rfl⟩
  unfold role; rw [dif_pos h]; exact congrArg some (csem_inj (Classical.choose_spec h))
theorem role_eq_none {sm : SemLoc sig} (h : ∀ r, csem r ≠ sm) : role sm = none := dif_neg fun ⟨r, hr⟩ => h r hr

/-- The credit of a slot's transfer, and of a store to the result. -/
def N : ℕ := (slot bM 0 0).view.dmaCredit
def N' : ℕ := (outB oM 0 0 0).view.dmaCredit
theorem slot_credit (k : Fin 4) (s : Fin 2) : (slot bM k s).view.dmaCredit = N := rfl
theorem out_credit (c : Dev nD) (k : Fin 4) (j : Fin 8) : (outB oM c k j).view.dmaCredit = N' := rfl
theorem N_pos : 0 < N := View.dmaCredit_pos _ (by decide)
theorem N'_pos : 0 < N' := View.dmaCredit_pos _ (by decide)

/-! ## The schedule, over the contents `val k h c` device `c` sends at hop `h` of stream `k` -/

section Schedule

variable (val : Fin 4 → ℕ → Dev nD → Blk F)

/-- A slot at known contents, and at any. -/
def slotAt (c : Dev nD) (k : Fin 4) (s : Fin 2) (q : PosShare TreeShare) (v : Blk F) : sProp 𝕄 :=
  owns (c : Thread nD τ) (slot bM k s) q v
def slotAny (c : Dev nD) (k : Fin 4) (s : Fin 2) (q : PosShare TreeShare) : sProp 𝕄 :=
  ownsSat (c : Thread nD τ) (slot bM k s) q fun _ => True
/-- A block of the result at known contents, and at any. -/
def outAt (c : Dev nD) (k : Fin 4) (j : Fin 8) (v : Blk F) : sProp 𝕄 :=
  owns (c : Thread nD τ) (outB oM c k j) fullShare v
def outAny (c : Dev nD) (k : Fin 4) (j : Fin 8) : sProp 𝕄 :=
  ownsSat (c : Thread nD τ) (outB oM c k j) fullShare fun _ => True

/-- Round numbers as store numbers. -/
def nth (j : ℕ) : Fin 8 := ⟨j % 8, Nat.mod_lt _ (by decide)⟩

/-- How many rounds a semaphore goes through, and what a round counts. -/
def rounds : Job → ℕ | .kept => 8 | _ => 14
def amt : Job → ℕ | .room => 1 | .kept => N' | _ => N
theorem amt_pos (j : Job) : 0 < amt j := by cases j <;> simp only [amt, N_pos, N'_pos, Nat.one_pos]

/-- What a round hands its waiter. A grant: the receiver's slot, and that it awaits this round. An arrival: the slot
    filled, and that the sender awaits the next grant. A departure: the share of the slot that was sent from. A store:
    the share of the slot that was stored from, and the block of the result at the slot's contents. -/
def pay (c : Dev nD) : Job → Fin 4 → ℕ → sProp 𝕄
  | .room, k, i => iprop(slotAny (dst k c) k (par (i + 1)) fullShare ∗ reached ER (cell (dst k c) (some (.come, k))) i)
  | .come, k, i => iprop(slotAt c k (par (i + 1)) fullShare (val k i (src k c)) ∗ reached ER (cell (src k c) (some (.room, k))) (i + 1))
  | .sent, k, i => slotAny c k (par i) fullShare.right
  | .kept, k, i => iprop(slotAny c k (par (i + 7)) fullShare.left ∗ outAt c k (nth i) (val k (i + 7) c))

instance pay_storable (c : Dev nD) (j : Job) (k : Fin 4) (i : ℕ) : BI.Storable (upEmb : UEmb _ 𝕄) (pay val c j k i) := by
  cases j <;> dsimp only [pay, slotAny, slotAt, outAt] <;> infer_instance

/-- The duties of a round: the barrier's two, each other round's one. -/
def dutiesOf : Role → ℕ → Finset Bool
  | none, i => if i = 0 then Finset.univ else ∅
  | some (j, _), i => if i < rounds j then {false} else ∅
def amtOf : Role → ℕ | none => 1 | some (j, _) => amt j
def payOf (c : Dev nD) : Role → ℕ → sProp 𝕄 | none, _ => iprop(emp) | some (j, k), i => pay val c j k i

/-- The ring's schedule. -/
def rd : Rounds.Schedule (GSem nD τ sig) Bool 𝕄 where
  duties g i := if g.1.2 = .tc then (role g.2).elim ∅ (dutiesOf · i) else ∅
  unitless _ := False
  amount g _ _ := (role g.2).elim 1 amtOf
  payload g i _ := (role g.2).elim iprop(emp) (payOf val g.1.1 · i)
  amount_pos g _ _ _ := by
    rcases role g.2 with _ | _ | ⟨j, k⟩
    · exact Nat.one_pos
    · exact Nat.one_pos
    · exact amt_pos j

instance rd_storable (g : GSem nD τ sig) (i : ℕ) (d : Bool) : BI.Storable (upEmb : UEmb _ 𝕄) ((rd val).payload g i d) := by
  show BI.Storable upEmb ((role g.2).elim iprop(emp) (payOf val g.1.1 · i))
  rcases role g.2 with _ | _ | ⟨j, k⟩
  · show BI.Storable upEmb iprop(emp); infer_instance
  · show BI.Storable upEmb iprop(emp); infer_instance
  · show BI.Storable upEmb (pay val g.1.1 j k i); infer_instance

variable (c : Dev nD)

theorem rd_duties (r : Role) (i : ℕ) : (rd val).duties (cell c r) i = dutiesOf r i := by
  dsimp only [rd]
  rw [if_pos (show (cell c r).1.2 = .tc from rfl), role_csem]; rfl
theorem rd_amount (r : Role) (i : ℕ) (d : Bool) : (rd val).amount (cell c r) i d = amtOf r := by
  show (role (csem r)).elim 1 amtOf = _; rw [role_csem]; rfl
theorem rd_payload (r : Role) (i : ℕ) (d : Bool) : (rd val).payload (cell c r) i d = payOf val c r i := by
  show (role (csem r)).elim iprop(emp) (payOf val (cell c r).1.1 · i) = _; rw [role_csem]; rfl

theorem duty_mem {j : Job} (k : Fin 4) {i : ℕ} (h : i < rounds j) : false ∈ (rd val).duties (cell c (some (j, k))) i := by
  rw [rd_duties]; dsimp only [dutiesOf]; rw [if_pos h]; exact Finset.mem_singleton_self _
theorem rd_expect {j : Job} (k : Fin 4) {i : ℕ} (h : i < rounds j) : (rd val).expect (cell c (some (j, k))) i = amt j := by
  unfold Schedule.expect Schedule.amountOf
  rw [rd_duties]; dsimp only [dutiesOf]
  rw [if_pos h, Finset.sum_singleton, rd_amount]; rfl
theorem rd_rest {j : Job} (k : Fin 4) {i : ℕ} (h : i < rounds j) :
    bigSep ((rd val).duties (cell c (some (j, k))) i \ ∅) (fun d => (rd val).payload (cell c (some (j, k))) i d) = pay val c j k i := by
  rw [Finset.sdiff_empty, rd_duties]; dsimp only [dutiesOf]
  rw [if_pos h, bigSep_singleton, rd_payload]; rfl
theorem rd_expect_bar : (rd val).expect (cell c none) 0 = 2 := by
  unfold Schedule.expect Schedule.amountOf
  rw [rd_duties, Finset.sum_congr rfl fun d _ => rd_amount val c none 0 d]; rfl
theorem rd_over {j : Job} (k : Fin 4) : ∀ i, rounds j ≤ i → (rd val).duties (cell c (some (j, k))) i = ∅ := fun i hi => by
  rw [rd_duties]; exact if_neg (by omega)
theorem rd_over_bar : ∀ i, 1 ≤ i → (rd val).duties (cell c none) i = ∅ := fun i hi => by
  rw [rd_duties]; exact if_neg (by omega)

end Schedule

/-! ## What a device owes, and the levels -/

/-- The next round of each stream, streams before the `a`-th being one ahead of round `n`. -/
def lvl (n a : ℕ) (k : Fin 4) : ℕ := if k.val < a then n + 1 else n

/-- What device `c` owes when the streams before the `a`-th have granted round `n` and those before the `b`-th have sent
    hop `n`: the later grants to its senders and the later hops to its receivers. -/
def owed (c : Dev nD) (n a b : ℕ) : CellTallies nD τ sig ℕ :=
  (∑ k, ∑ j ∈ Finset.Ico (lvl n a k) 14, tallyAt (cell (src k c) (some (.room, k))) j 1)
    + ∑ k, ∑ j ∈ Finset.Ico (lvl n b k) 14, tallyAt (cell (dst k c) (some (.come, k))) j N
/-- The same at launch: the two barrier units on top. -/
def owed₀ (c : Dev nD) : CellTallies nD τ sig ℕ :=
  owed c 0 0 0 + tallyAt (cell (nxt c) none) 0 1 + tallyAt (cell (prv c) none) 0 1

theorem lvl_self (n : ℕ) (k : Fin 4) : lvl n k.val k = n := if_neg (Nat.lt_irrefl _)
theorem lvl_ne (n : ℕ) {k k' : Fin 4} (h : k' ≠ k) : lvl n (k.val + 1) k' = lvl n k.val k' := by
  have : k'.val ≠ k.val := fun e => h (Fin.ext e)
  unfold lvl; split <;> split <;> omega
theorem lvl_succ (n : ℕ) (k : Fin 4) : lvl n (k.val + 1) k = n + 1 := if_pos (Nat.lt_succ_self _)
theorem lvl_four (n : ℕ) : lvl n 4 = lvl (n + 1) 0 := funext fun k => by
  unfold lvl; rw [if_pos k.isLt, if_neg (Nat.not_lt_zero _)]

theorem Ico_cons {n b : ℕ} (h : n < b) : Finset.Ico n b = insert n (Finset.Ico (n + 1) b) := by
  ext x; rw [Finset.mem_insert, Finset.mem_Ico, Finset.mem_Ico]; omega

/-- One stream's next summand peeled off. -/
theorem peel {M : Type} [AddCommMonoid M] (t : Fin 4 → ℕ → M) (n : ℕ) (k : Fin 4) (h : n < 14) :
    (∑ k', ∑ j ∈ Finset.Ico (lvl n k.val k') 14, t k' j) = (∑ k', ∑ j ∈ Finset.Ico (lvl n (k.val + 1) k') 14, t k' j) + t k n := by
  have h' : (∑ k' ∈ Finset.univ.erase k, ∑ j ∈ Finset.Ico (lvl n k.val k') 14, t k' j)
      = ∑ k' ∈ Finset.univ.erase k, ∑ j ∈ Finset.Ico (lvl n (k.val + 1) k') 14, t k' j :=
    Finset.sum_congr rfl fun k' hk' => by rw [lvl_ne n (Finset.ne_of_mem_erase hk')]
  rw [← Finset.add_sum_erase _ _ (Finset.mem_univ k), ← Finset.add_sum_erase _ _ (Finset.mem_univ k), lvl_self, lvl_succ,
    Ico_cons h, Finset.sum_insert (fun hm => by rw [Finset.mem_Ico] at hm; omega), h']
  ac_rfl

theorem owed_grant (c : Dev nD) (n : ℕ) (k : Fin 4) (b : ℕ) (h : n < 14) :
    owed c n k.val b = owed c n (k.val + 1) b + tallyAt (cell (src k c) (some (.room, k))) n 1 := by
  unfold owed; rw [peel _ n k h]; ac_rfl
theorem owed_fire (c : Dev nD) (n a : ℕ) (k : Fin 4) (h : n < 14) :
    owed c n a k.val = owed c n a (k.val + 1) + tallyAt (cell (dst k c) (some (.come, k))) n N := by
  unfold owed; rw [peel (fun k j => tallyAt (cell (dst k c) (some (.come, k))) j N) n k h]; ac_rfl
theorem owed_four (c : Dev nD) (n : ℕ) : owed c n 4 4 = owed c (n + 1) 0 0 := by
  unfold owed; simp only [lvl_four]
theorem owed_done (c : Dev nD) (a b : ℕ) : owed c 14 a b = 0 := by
  have h (a : ℕ) (k : Fin 4) : Finset.Ico (lvl 14 a k) 14 = ∅ := Finset.Ico_eq_empty (by unfold lvl; split <;> omega)
  unfold owed; simp only [h, Finset.sum_empty, Finset.sum_const_zero, add_zero]

/-- A semaphore's level at a round. -/
def lvOf : Role → ℕ → ℕ
  | none, _ => 1
  | some (.room, k), i => 2 + 8 * i + k.val
  | some (.come, _), i => 6 + 8 * i
  | some _, _ => 0
def lv (g : GSem nD τ sig) (i : ℕ) : ℕ := (role g.2).elim 0 (lvOf · i)
def L (g : GSem nD τ sig) : Finset ℕ := if g.1.2 = .tc then Finset.range 15 else ∅
theorem L_of_ne (g : GSem nD τ sig) (h : g.1.2 ≠ .tc) : L g = ∅ := if_neg h
theorem L_tc (c : Dev nD) (sm : SemLoc sig) : L ((c : Thread nD τ), sm) = Finset.range 15 := if_pos rfl
theorem lv_cell (c : Dev nD) (r : Role) (i : ℕ) : lv (cell c r) i = lvOf r i := by
  show (role (csem r)).elim 0 (lvOf · i) = _; rw [role_csem]; rfl

theorem pos_sum {ι : Type} (s : Finset ι) (t : ι → CellTallies nD τ sig ℕ) (g : GSem nD τ sig) (i : ℕ) (h : 0 < (∑ x ∈ s, t x) g i) :
    ∃ x ∈ s, 0 < t x g i := by
  rw [Finset.sum_apply, Finsupp.finset_sum_apply] at h
  by_contra hn
  refine absurd h (Nat.not_lt.mpr (Nat.le_zero.mpr (Finset.sum_eq_zero fun x hx => ?_)))
  by_contra h0
  exact hn ⟨x, hx, Nat.pos_of_ne_zero h0⟩
theorem pos_tally {g₀ g : GSem nD τ sig} {i₀ i n : ℕ} (h : 0 < (tallyAt g₀ i₀ n : CellTallies nD τ sig ℕ) g i) : g = g₀ ∧ i = i₀ := by
  rw [tallyAt_apply] at h
  by_contra hn
  rw [if_neg hn] at h; exact Nat.lt_irrefl 0 h

theorem owed_pos {c : Dev nD} {n a b : ℕ} {g : GSem nD τ sig} {i : ℕ} (h : 0 < owed c n a b g i) :
    ∃ k, i < 14 ∧ ((g = cell (src k c) (some (.room, k)) ∧ lvl n a k ≤ i) ∨ (g = cell (dst k c) (some (.come, k)) ∧ lvl n b k ≤ i)) := by
  unfold owed at h
  rw [Pi.add_apply, Finsupp.add_apply] at h
  rcases Nat.add_pos_iff_pos_or_pos.mp h with h | h
  · obtain ⟨k, -, h⟩ := pos_sum _ _ _ _ h
    obtain ⟨j, hj, h⟩ := pos_sum _ _ _ _ h
    obtain ⟨rfl, rfl⟩ := pos_tally h
    rw [Finset.mem_Ico] at hj
    exact ⟨k, hj.2, .inl ⟨rfl, hj.1⟩⟩
  · obtain ⟨k, -, h⟩ := pos_sum _ _ _ _ h
    obtain ⟨j, hj, h⟩ := pos_sum _ _ _ _ h
    obtain ⟨rfl, rfl⟩ := pos_tally h
    rw [Finset.mem_Ico] at hj
    exact ⟨k, hj.2, .inr ⟨rfl, hj.1⟩⟩

/-- A wait is safe below everything its device owes. -/
theorem mayWait (c : Dev nD) (sm : SemLoc sig) (i n a b lev : ℕ) (hi : i < 15) (hl : lv ((c : Thread nD τ), sm) i ≤ lev)
    (ha : ∀ k : Fin 4, lev < 2 + 8 * lvl n a k + k.val) (hb : ∀ k : Fin 4, lev < 6 + 8 * lvl n b k) :
    (levAts L lv : sProp 𝕄) ⊢ MayWait (c : Thread nD τ) sm i (owed c n a b) :=
  MayOwe.of_cut (L := L) (lev := lv) lev
    (fun p hp => by rw [Finset.mem_singleton.mp hp, L_tc]; exact Finset.mem_range.mpr hi)
    (fun g u hg => by
      obtain ⟨k, hu, ⟨rfl, -⟩ | ⟨rfl, -⟩⟩ := owed_pos hg <;> exact Finset.mem_range.mpr (by omega))
    (fun p hp => by rw [Finset.mem_singleton.mp hp]; exact hl)
    (fun g u hg => by
      obtain ⟨k, hu, ⟨rfl, h⟩ | ⟨rfl, h⟩⟩ := owed_pos hg
      · rw [lv_cell]; have := ha k; simp only [lvOf]; omega
      · rw [lv_cell]; have := hb k; simp only [lvOf]; omega)

/-- A wait on a semaphore that is not the ring's is safe whatever the device still owes. -/
theorem mayWait_other (c : Dev nD) (sm : SemLoc sig) (h : ∀ r, csem r ≠ sm) (O : CellTallies nD τ sig ℕ) (hO : O = owed₀ c ∨ O = 0) :
    (levAts L lv : sProp 𝕄) ⊢ MayWait (c : Thread nD τ) sm 0 O := by
  rcases hO with rfl | rfl
  · have hpos {g : GSem nD τ sig} {u : ℕ} (hg : 0 < owed₀ c g u) : ∃ d r, g = cell d r ∧ u < 15 ∧ 0 < lvOf r u := by
      unfold owed₀ at hg
      rw [Pi.add_apply, Finsupp.add_apply, Pi.add_apply, Finsupp.add_apply] at hg
      rcases Nat.add_pos_iff_pos_or_pos.mp hg with hg | hg
      · rcases Nat.add_pos_iff_pos_or_pos.mp hg with hg | hg
        · obtain ⟨k, hu, ⟨rfl, -⟩ | ⟨rfl, -⟩⟩ := owed_pos hg
          · exact ⟨_, _, rfl, by omega, by simp only [lvOf]; omega⟩
          · exact ⟨_, _, rfl, by omega, by simp only [lvOf]; omega⟩
        · obtain ⟨rfl, rfl⟩ := pos_tally hg; exact ⟨_, _, rfl, by omega, Nat.one_pos⟩
      · obtain ⟨rfl, rfl⟩ := pos_tally hg; exact ⟨_, _, rfl, by omega, Nat.one_pos⟩
    exact MayOwe.of_cut (L := L) (lev := lv) 0
      (fun p hp => by rw [Finset.mem_singleton.mp hp, L_tc]; exact Finset.mem_range.mpr (by omega))
      (fun g u hg => by obtain ⟨d, r, rfl, hu, -⟩ := hpos hg; exact Finset.mem_range.mpr hu)
      (fun p hp => by rw [Finset.mem_singleton.mp hp]; show (role sm).elim 0 _ ≤ 0; rw [role_eq_none h]; exact Nat.le_refl 0)
      (fun g u hg => by obtain ⟨d, r, rfl, -, h⟩ := hpos hg; rw [lv_cell]; exact h)
  · rw [MayWait_zero]; iintro -; iempintro

end Cert.KernelIdeal.Ring

end
-- ==== Proof.Step.lean ====
/- What each step of the kernel's body does to the ring's resources. -/
module

public import proofs.«01_k».proof.Proof.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-- A program run on a device. -/
abbrev run {α : Type} (c : Dev nD) (p : KP F α) (Q : α → sProp 𝕄) : sProp 𝕄 :=
  wp frame (wpE (defs₀ (F := F)) 𝒱₀ (c : Thread nD τ) none) Set.univ p Q

theorem hoM : oM.IsWhole := Memref.isWhole_whole _
theorem hbM : bM.IsWhole := Memref.isWhole_whole _

/-! ## Positions, tokens, credits, debts -/

abbrev pos (c : Dev nD) (r : Role) (i : ℕ) : sProp 𝕄 := atPos ER (cell c r) i ∅ 0
abbrev tok (c : Dev nD) (r : Role) (i : ℕ) : sProp 𝕄 := dutyTok ER (cell c r) i false
abbrev at' (c : Dev nD) (r : Role) (i : ℕ) : sProp 𝕄 := reached ER (cell c r) i
abbrev due (c : Dev nD) (r : Role) (i n : ℕ) : sProp 𝕄 := cred (tallyAt (cell c r) i n)
def owe (c : Dev nD) (O : CellTallies nD τ sig ℕ) : sProp 𝕄 := iprop(∃ W, owes (c : Thread nD τ) O W)

section Facts

variable (val : Fin 4 → ℕ → Dev nD → Blk F) (K : Dev nD × Role → ℕ)

/-- What everyone knows: every semaphore keeps to the schedule, is at least at round 0, and has its levels. -/
def facts : sProp 𝕄 :=
  iprop((bigSep Finset.univ fun cr : Dev nD × Role => cellInv ER (rd val) (K cr) (cell cr.1 cr.2))
    ∗ (bigSep Finset.univ fun cr : Dev nD × Role => reached ER (cell cr.1 cr.2) 0) ∗ levAts L lv)
instance facts_persistent : BI.Persistent (facts val K) := by unfold facts; infer_instance

theorem facts_cell (c : Dev nD) (r : Role) : facts val K ⊢ cellInv ER (rd val) (K (c, r)) (cell c r) := by
  unfold facts
  iintro ⟨H, -, -⟩
  iapply (show (bigSep Finset.univ fun cr : Dev nD × Role => cellInv ER (rd val) (K cr) (cell cr.1 cr.2)) ⊢ cellInv ER (rd val) (K (c, r)) (cell c r) from
    bigSep_elim (Finset.mem_univ (c, r)))
  iexact H
theorem facts_zero (c : Dev nD) (r : Role) : facts val K ⊢ at' c r 0 := by
  unfold facts
  iintro ⟨-, H, -⟩
  iapply (show (bigSep Finset.univ fun cr : Dev nD × Role => (reached ER (cell cr.1 cr.2) 0 : sProp 𝕄)) ⊢ reached ER (cell c r) 0 from
    bigSep_elim (Finset.mem_univ (c, r)))
  iexact H
theorem facts_lev : facts val K ⊢ levAts L lv := by
  unfold facts
  iintro ⟨-, -, H⟩; iexact H

end Facts

/-- A memref written whole holds what was written. -/
theorem landed (c : Dev nD) {sp : Space} {a : Shape} {e : EltTy} (m : Memref sig .tc sp a e) (f : m.view.ty.Contents (Elt F))
    {w v : a.Idx → Elt F e} (h : w = v) :
    (m.view.loc (c : Thread nD τ) ↦[m.view.set]{fullShare} m.view.write (Elt F) f w Finset.univ : sProp 𝕄)
      ⊢ owns (c : Thread nD τ) m fullShare v := by
  unfold owns
  iintro H
  iexists (m.view.write (Elt F) f w Finset.univ)
  isplitr; · ipureintro; exact (View.read_write_univ _ _).trans h
  iexact H

/-! ## Slots: shares, reading, writing -/

/-- A slot's contents as the vector unit reads them, and what is read of a slot the vector unit wrote. -/
def up (v : Blk F) : FVec F S1x1x512x512 .bf16 := fun i => v ((Shape.reshapeEquiv squeezes_S1x1x512x512_S512x512.numel_eq).symm i)
def dn (w : FVec F S1x1x512x512 .bf16) : Blk F := fun y => w (Shape.reshapeEquiv squeezes_S1x1x512x512_S512x512.numel_eq y)

theorem up_dn (w : FVec F S1x1x512x512 .bf16) : up (dn w) = w := by
  funext i; unfold up dn; rw [Equiv.apply_symm_apply]
theorem dn_up (v : Blk F) : dn (up v) = v := by
  funext i; exact congrArg v (Equiv.symm_apply_apply _ i)

/-- A squeezed memref held at some contents is the memref held so, its contents re-indexed. -/
theorem sat_squeeze (c : Dev nD) {sp : Space} {a b : Shape} {e : EltTy} (m : Memref sig .tc sp a e) (h : a.Squeezes b)
    (q : PosShare TreeShare) (P : (b.Idx → Elt F e) → Prop) :
    (ownsSat (c : Thread nD τ) (m.squeeze b h) q P : sProp 𝕄)
      = ownsSat (c : Thread nD τ) m q fun w => P fun y => w (Shape.reshapeEquiv h.numel_eq y) := by
  have hS : (m.squeeze b h).view.set = m.view.set := View.set_reshape (v := m.view) h.numel_eq
  unfold ownsSat
  show iprop(∃ f, ⌜_⌝ ∗ (m.view.loc (c : Thread nD τ) ↦[(m.squeeze b h).view.set]{q} f)) = _
  rw [hS]; rfl

/-- A slot, as the vector unit gets at it. -/
abbrev win (k : Fin 4) (s : Fin 2) : Memref sig .tc .vmem S1x1x512x512 .bf16 := bM.slice (slotR k s) (fun _ => rfl)
theorem slotAny_eq (c : Dev nD) (k : Fin 4) (s : Fin 2) (q : PosShare TreeShare) :
    (slotAny c k s q : sProp 𝕄) = ownsSat (c : Thread nD τ) (win k s) q fun _ => True :=
  sat_squeeze c (win k s) squeezes_S1x1x512x512_S512x512 q fun _ => True
theorem slotAt_eq (c : Dev nD) (k : Fin 4) (s : Fin 2) (q : PosShare TreeShare) (v : Blk F) :
    (slotAt c k s q v : sProp 𝕄) = ownsSat (c : Thread nD τ) (win k s) q fun w => dn w = v :=
  sat_squeeze c (win k s) squeezes_S1x1x512x512_S512x512 q (· = v)

variable (c : Dev nD) (k : Fin 4)

theorem slot_any (s : Fin 2) (q : PosShare TreeShare) (v : Blk F) : slotAt c k s q v ⊢ slotAny c k s q :=
  ownsSat_intro (c : Thread nD τ) (slot bM k s) q trivial
theorem slot_halves (s : Fin 2) (v : Blk F) : slotAt c k s fullShare v ⊢ iprop(slotAt c k s fullShare.left v ∗ slotAt c k s fullShare.right v) :=
  (owns_halves (c : Thread nD τ) (slot bM k s) fullShare v).1
theorem slot_rejoin (s : Fin 2) (v : Blk F) :
    iprop(slotAt c k s fullShare.left v ∗ slotAny c k s fullShare.right) ⊢ slotAt c k s fullShare v :=
  owns_rejoin (c : Thread nD τ) (slot bM k s) fullShare v

/-- A slot's contents are loaded. -/
theorem run_get (s : Fin 2) (q : PosShare TreeShare) (v : Blk F) {kk : Vec F S1x1x512x512 .bf16 → KP F PUnit} {Q : PUnit → sProp 𝕄} :
    slotAt c k s q v ⊢ iprop((slotAt c k s q v -∗ run c (kk (up v)) Q) -∗ run c (get bM k s >>= kk) Q) := by
  rw [slotAt_eq]
  unfold get ownsSat
  simp only [Prog.lift, Prog.bind_op, Prog.bind_ret]
  iintro ⟨%f, %hf, H⟩ Hk
  iapply (wp_load_rect 𝒱₀ (c : Thread nD τ) none Set.univ (m := bM) (r := slotR k s) (Finset.Subset.refl _)) $$ H; iintro H
  rw [show (bM.access (slotR k s)).read (Elt F) f = up v from by rw [← hf, up_dn]]
  iapply Hk
  iexists f
  isplitr; · ipureintro; exact hf
  iexact H

/-- A slot is overwritten. -/
theorem run_put (s : Fin 2) (w : FVec F S1x1x512x512 .bf16) {kk : PUnit → KP F PUnit} {Q : PUnit → sProp 𝕄} :
    slotAny c k s fullShare ⊢ iprop((slotAt c k s fullShare (dn w) -∗ run c (kk ⟨⟩) Q) -∗ run c (put bM hbM k s w >>= kk) Q) := by
  rw [slotAny_eq, slotAt_eq]
  unfold put ownsSat
  simp only [Prog.lift, Prog.bind_op, Prog.bind_ret]
  iintro ⟨%f, -, H⟩ Hk
  iapply (wp_load_rect 𝒱₀ (c : Thread nD τ) none Set.univ (m := bM) (r := slotR k s) (Finset.Subset.refl _)) $$ H; iintro H
  iapply (wp_store 𝒱₀ (c : Thread nD τ) none Set.univ (m := bM) (r := slotR k s) (Mk := Finset.univ) (S := (bM.access (slotR k s)).set) (Finset.Subset.refl _)) $$ H; iintro H
  iapply Hk
  iexists ((bM.access (slotR k s)).write (Elt F) f w Finset.univ)
  isplitr; · ipureintro; exact congrArg dn (View.read_write_univ (v := bM.access (slotR k s)) f w)
  iexact H

/-! ## Grants, sends, arrivals, stores -/

section Talk

variable (val : Fin 4 → ℕ → Dev nD → Blk F) (K : Dev nD × Role → ℕ)

/-- A grant: the slot the next hop lands in goes to its sender. -/
theorem run_grant (n b : ℕ) (hn : n < 14) {kk : PUnit → KP F PUnit} {Q : PUnit → sProp 𝕄} :
    iprop(facts val K ∗ owe c (owed c n k.val b) ∗ tok (src k c) (some (.room, k)) n ∗ at' (src k c) (some (.room, k)) n
        ∗ slotAny c k (par (n + 1)) fullShare ∗ at' c (some (.come, k)) n)
      ⊢ iprop((owe c (owed c n (k.val + 1) b) -∗ run c (kk ⟨⟩) Q) -∗ run c (grant cc0_scratch3 c k >>= kk) Q) := by
  unfold grant semSignalWord owe
  simp only [Prog.lift, Prog.bind_op, Prog.bind_ret]
  iintro ⟨#HI, ⟨%W, HO⟩, Ht, Hr, Hs, Ha⟩ Hk
  ihave #Hc := (facts_cell val K (src k c) (some (.room, k))) $$ HI
  iapply (Rounds.wp_signal 𝒱₀ ER (rd val) (c : Thread nD τ) none (dst := (src k c : Thread nD τ)) (κ := K (src k c, some (.room, k))) (r := n)
      (d := false) (duty_mem val (src k c) (j := .room) k hn) ((rd_amount val (src k c) (some (.room, k)) n false).trans rfl) n _
      (owed_grant c n k b hn)) $$ [HO Ht Hr Hs Ha]
  · isplitr; · iexact Hc
    isplitl [HO]; · iexact HO
    isplitl [Ht]; · iexact Ht
    isplitl [Hs Ha]
    · iapply (Entails.of_eq (rd_payload val (src k c) (some (.room, k)) n false).symm)
      dsimp only [payOf, pay]; rw [dst_src]
      isplitl [Hs]; · iexact Hs
      iexact Ha
    iexact Hr
  iintro HO
  iapply Hk
  iexists W; iexact HO

/-- A send, once the receiver has granted it. -/
theorem run_fire (n : ℕ) (hn : n < 14) {kk : PUnit → KP F PUnit} {Q : PUnit → sProp 𝕄} :
    iprop(facts val K ∗ owe c (owed c n (k.val + 1) k.val) ∗ pos c (some (.room, k)) n ∗ due c (some (.room, k)) n 1
        ∗ slotAt c k (par n) fullShare.right (val k n c) ∗ tok c (some (.sent, k)) n ∗ at' c (some (.sent, k)) n
        ∗ tok (dst k c) (some (.come, k)) n)
      ⊢ iprop((iprop(owe c (owed c n (k.val + 1) (k.val + 1)) ∗ pos c (some (.room, k)) (n + 1) ∗ due c (some (.sent, k)) n N)
          -∗ run c (kk ⟨⟩) Q) -∗ run c (fire bM hbM cc0_scratch1 cc0_scratch2 cc0_scratch3 c k n >>= kk) Q) := by
  unfold fire semWaitWord owe
  simp only [Prog.lift, Prog.bind_op, Prog.bind_ret]
  iintro ⟨#HI, ⟨%W, HO⟩, Hp, Hd, Hs, Ht, Hr, Ht'⟩ Hk
  ihave #Hc := (facts_cell val K c (some (.room, k))) $$ HI
  ihave #Hcs := (facts_cell val K c (some (.sent, k))) $$ HI
  ihave #Hcd := (facts_cell val K (dst k c) (some (.come, k))) $$ HI
  iapply (Rounds.wp_wait_rest_token 𝒱₀ ER (rd val) (c : Thread nD τ) none (κ := K (c, some (.room, k)))
      (wpE_semWait_eq 𝒱₀ (c : Thread nD τ) none Set.univ) (Set.mem_univ _) n (O := owed c n (k.val + 1) k.val) (W := W) (R := n) (m := 0) (T := ∅)
      ((rd_expect val c k (j := .room) hn).symm ▸ by decide)) $$ [Hd HO Hp]
  · isplitr; · iexact Hc
    isplitl [Hd]; · iexact Hd
    isplitl [HO]; · iexact HO
    isplitr
    · iapply (mayWait c _ n n (k.val + 1) k.val (2 + 8 * n + k.val) (by omega) (lv_cell c (some (.room, k)) n).le
        (fun k' => by unfold lvl; split <;> omega) (fun k' => by unfold lvl; split <;> omega))
      iapply (facts_lev val K) $$ HI
    iexact Hp
  iintro ⟨HO, Hp, #Hnext, Hpay⟩
  ihave Hpay := (Entails.of_eq (rd_rest val c k (j := .room) hn)) $$ Hpay
  dsimp only [pay, slotAny, slotAt, ownsSat, owns]
  icases Hpay with ⟨⟨%fd, -, Hd⟩, Hrd⟩
  icases Hs with ⟨%fs, %hfs, Hs⟩
  iapply (Rounds.wp_send_pointsTo_with 𝒱₀ ER (rd val) (c : Thread nD τ) none (κ₁ := K (c, some (.sent, k))) (κ₂ := K (dst k c, some (.come, k)))
      (r₁ := n) (r₂ := n) (d₁ := false) (d₂ := false) (fs := fs) (fd := fd) (F := at' c (some (.room, k)) (n + 1))
      (duty_mem val c (j := .sent) k hn) (duty_mem val (dst k c) (j := .come) k hn) n n N (slot_credit k _)
      (rd_amount val c (some (.sent, k)) n false) (rd_amount val (dst k c) (some (.come, k)) n false) _ (owed_fire c n (k.val + 1) k hn)
      (by
        refine BIBase.Entails.trans ?_ (Entails.of_eq (rd_payload val c (some (.sent, k)) n false).symm)
        dsimp only [payOf, pay, slotAny, ownsSat]
        iintro H; iexists fs
        isplitr; · ipureintro; trivial
        iexact H)
      (by
        refine BIBase.Entails.trans ?_ (Entails.of_eq (rd_payload val (dst k c) (some (.come, k)) n false).symm)
        dsimp only [payOf, pay, slotAt]
        rw [src_dst]
        iintro ⟨H, Hr⟩
        isplitl [H]
        · iapply (landed (dst k c) (slot bM k (par (n + 1))) fd hfs); iexact H
        iexact Hr)) $$ [Hs Hd HO Ht Hr Ht' Hrd]
  · isplitr; · iexact Hcs
    isplitr; · iexact Hcd
    isplitl [Hs]; · iexact Hs
    isplitl [Hd]
    · isplitl [Hd]; · iexact Hd
      iexact Hnext
    isplitl [HO]; · iexact HO
    isplitl [Ht]; · iexact Ht
    isplitl [Hr]; · iexact Hr
    isplitl [Ht']; · iexact Ht'
    iexact Hrd
  iintro ⟨Hd, HO⟩
  iapply Hk
  isplitl [HO]; · iexists _; iexact HO
  isplitl [Hp]; · iexact Hp
  iexact Hd

/-- A hop over: the share sent from is back, the slot sent to is full, the next grant is awaited. -/
theorem run_arrive (n a b : ℕ) (hn : n < 14) {kk : PUnit → KP F PUnit} {Q : PUnit → sProp 𝕄} :
    iprop(facts val K ∗ owe c (owed c (n + 1) a b) ∗ pos c (some (.sent, k)) n ∗ due c (some (.sent, k)) n N
        ∗ pos c (some (.come, k)) n ∗ due c (some (.come, k)) n N)
      ⊢ iprop((iprop(owe c (owed c (n + 1) a b) ∗ pos c (some (.sent, k)) (n + 1) ∗ at' c (some (.sent, k)) (n + 1)
            ∗ pos c (some (.come, k)) (n + 1) ∗ at' c (some (.come, k)) (n + 1)
            ∗ slotAny c k (par n) fullShare.right ∗ slotAt c k (par (n + 1)) fullShare (val k n (src k c)) ∗ at' (src k c) (some (.room, k)) (n + 1))
          -∗ run c (kk ⟨⟩) Q) -∗ run c (arrive bM hbM cc0_scratch1 cc0_scratch2 k n >>= kk) Q) := by
  unfold arrive owe
  simp only [Prog.lift, Prog.bind_op, Prog.bind_ret]
  iintro ⟨#HI, ⟨%W, HO⟩, Hp, Hd, Hp', Hd'⟩ Hk
  ihave #Hc := (facts_cell val K c (some (.sent, k))) $$ HI
  ihave #Hc' := (facts_cell val K c (some (.come, k))) $$ HI
  iapply (Rounds.wp_wait_rest_token 𝒱₀ ER (rd val) (c : Thread nD τ) none (κ := K (c, some (.sent, k)))
      (wpE_waitDma2_eq 𝒱₀ (c : Thread nD τ) none Set.univ) (Set.mem_univ _) n (O := owed c (n + 1) a b) (W := W) (R := n) (m := 0) (T := ∅)
      ((Nat.zero_add _).trans ((slot_credit k _).trans (rd_expect val c k (j := .sent) hn).symm))) $$ [Hd HO Hp]
  · isplitr; · iexact Hc
    isplitl [Hd]; · iexact Hd
    isplitl [HO]; · iexact HO
    isplitr
    · iapply (mayWait c _ n (n + 1) a b 0 (by omega) (lv_cell c (some (.sent, k)) n).le (fun k' => by omega) (fun k' => by omega))
      iapply (facts_lev val K) $$ HI
    iexact Hp
  iintro ⟨HO, Hp, Hr, Hpay⟩
  ihave Hpay := (Entails.of_eq (rd_rest val c k (j := .sent) hn)) $$ Hpay
  iapply (Rounds.wp_wait_rest_token 𝒱₀ ER (rd val) (c : Thread nD τ) none (κ := K (c, some (.come, k)))
      (wpE_waitDma2_eq 𝒱₀ (c : Thread nD τ) none Set.univ) (Set.mem_univ _) n (O := owed c (n + 1) a b) (R := n) (m := 0) (T := ∅)
      ((Nat.zero_add _).trans ((slot_credit k _).trans (rd_expect val c k (j := .come) hn).symm))) $$ [Hd' HO Hp']
  · isplitr; · iexact Hc'
    isplitl [Hd']; · iexact Hd'
    isplitl [HO]; · iexact HO
    isplitr
    · iapply (mayWait c _ n (n + 1) a b (6 + 8 * n) (by omega) (lv_cell c (some (.come, k)) n).le
        (fun k' => by unfold lvl; split <;> omega) (fun k' => by unfold lvl; split <;> omega))
      iapply (facts_lev val K) $$ HI
    iexact Hp'
  iintro ⟨HO, Hp', Hr', Hpay'⟩
  ihave Hpay' := (Entails.of_eq (rd_rest val c k (j := .come) hn)) $$ Hpay'
  dsimp only [pay]
  icases Hpay' with ⟨Hs, Hra⟩
  iapply Hk
  isplitl [HO]; · iexists _; iexact HO
  isplitl [Hp]; · iexact Hp
  isplitl [Hr]; · iexact Hr
  isplitl [Hp']; · iexact Hp'
  isplitl [Hr']; · iexact Hr'
  isplitl [Hpay]; · iexact Hpay
  isplitl [Hs]; · iexact Hs
  iexact Hra

/-- A store to the result begins. -/
theorem run_keep (j : ℕ) (hj : j < 8) (s : Fin 2) (i : Fin 8) (hs : s = par (j + 7)) (hi : i = nth j)
    {kk : PUnit → KP F PUnit} {Q : PUnit → sProp 𝕄} :
    iprop(facts val K ∗ slotAt c k s fullShare.left (val k (j + 7) c) ∗ outAny c k i ∗ tok c (some (.kept, k)) j ∗ at' c (some (.kept, k)) j)
      ⊢ iprop((due c (some (.kept, k)) j N' -∗ run c (kk ⟨⟩) Q) -∗ run c (keep oM hoM bM hbM cc0_scratch4 c k s i >>= kk) Q) := by
  subst hs hi
  unfold keep slotAt outAny owns ownsSat
  simp only [Prog.lift, Prog.bind_op, Prog.bind_ret]
  iintro ⟨#HI, ⟨%fs, %hfs, Hs⟩, ⟨%fd, -, Hd⟩, Ht, Hr⟩ Hk
  ihave #Hc := (facts_cell val K c (some (.kept, k))) $$ HI
  iapply (Rounds.wp_copy_pointsTo 𝒱₀ ER (rd val) (c : Thread nD τ) none (κ := K (c, some (.kept, k))) (r := j) (d := false) (fs := fs) (fd := fd)
      (duty_mem val c (j := .kept) k hj) j N' (out_credit c k _) (rd_amount val c (some (.kept, k)) j false)
      (by
        refine BIBase.Entails.trans ?_ (Entails.of_eq (rd_payload val c (some (.kept, k)) j false).symm)
        dsimp only [payOf, pay, slotAny, outAt, ownsSat]
        iintro ⟨Hd, Hs⟩
        isplitl [Hs]
        · iexists fs
          isplitr; · ipureintro; trivial
          iexact Hs
        · iapply (landed c (outB oM c k (nth j)) fd hfs); iexact Hd)) $$ [Hs Hd Ht Hr]
  · isplitr; · iexact Hc
    isplitl [Hs]; · iexact Hs
    isplitl [Hd]; · iexact Hd
    isplitl [Ht]; · iexact Ht
    iexact Hr
  iexact Hk

/-- A store to the result is over. -/
theorem run_kept (j n a b : ℕ) (hj : j < 8) (s : Fin 2) (i : Fin 8) (hs : s = par (j + 7)) (hi : i = nth j)
    {kk : PUnit → KP F PUnit} {Q : PUnit → sProp 𝕄} :
    iprop(facts val K ∗ owe c (owed c n a b) ∗ pos c (some (.kept, k)) j ∗ due c (some (.kept, k)) j N')
      ⊢ iprop((iprop(owe c (owed c n a b) ∗ pos c (some (.kept, k)) (j + 1) ∗ at' c (some (.kept, k)) (j + 1)
            ∗ slotAny c k s fullShare.left ∗ outAt c k i (val k (j + 7) c))
          -∗ run c (kk ⟨⟩) Q) -∗ run c (kept oM hoM bM hbM cc0_scratch4 c k s i >>= kk) Q) := by
  subst hs hi
  unfold kept owe
  simp only [Prog.lift, Prog.bind_op, Prog.bind_ret]
  iintro ⟨#HI, ⟨%W, HO⟩, Hp, Hd⟩ Hk
  ihave #Hc := (facts_cell val K c (some (.kept, k))) $$ HI
  iapply (Rounds.wp_wait_rest_token 𝒱₀ ER (rd val) (c : Thread nD τ) none (κ := K (c, some (.kept, k)))
      (wpE_waitDma2_eq 𝒱₀ (c : Thread nD τ) none Set.univ) (Set.mem_univ _) j (O := owed c n a b) (W := W) (R := j) (m := 0) (T := ∅)
      ((Nat.zero_add _).trans ((out_credit c k _).trans (rd_expect val c k (j := .kept) hj).symm))) $$ [Hd HO Hp]
  · isplitr; · iexact Hc
    isplitl [Hd]; · iexact Hd
    isplitl [HO]; · iexact HO
    isplitr
    · iapply (mayWait c _ j n a b 0 (by omega) (lv_cell c (some (.kept, k)) j).le (fun k' => by omega) (fun k' => by omega))
      iapply (facts_lev val K) $$ HI
    iexact Hp
  iintro ⟨HO, Hp, Hr, Hpay⟩
  ihave Hpay := (Entails.of_eq (rd_rest val c k (j := .kept) hj)) $$ Hpay
  dsimp only [pay]
  icases Hpay with ⟨Hs, Ho⟩
  iapply Hk
  isplitl [HO]; · iexists _; iexact HO
  isplitl [Hp]; · iexact Hp
  isplitl [Hr]; · iexact Hr
  isplitl [Hs]; · iexact Hs
  iexact Ho

end Talk

end Cert.KernelIdeal.Ring

end
-- ==== Proof.Hop.lean ====
/- What a stream holds between hops, and what each hop of it does. -/
module

public import proofs.«01_k».proof.Proof.Step

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- One resource for each of the numbers from `n` on, below `b`. -/
def later (n b : ℕ) (P : ℕ → sProp 𝕄) : sProp 𝕄 := bigSep (Finset.Ico n b) P
theorem later_cons {n b : ℕ} (h : n < b) (P : ℕ → sProp 𝕄) : later n b P ⊢ iprop(P n ∗ later (n + 1) b P) := by
  unfold later
  rw [Ico_cons h, bigSep_insert (fun hm => by rw [Finset.mem_Ico] at hm; omega)]
  exact BIBase.Entails.rfl
theorem later_snoc (n : ℕ) (P : ℕ → sProp 𝕄) : iprop(P n ∗ later 0 n P) ⊢ later 0 (n + 1) P := by
  have h : Finset.Ico 0 (n + 1) = insert n (Finset.Ico 0 n) := by
    ext x; rw [Finset.mem_insert, Finset.mem_Ico, Finset.mem_Ico]; omega
  unfold later
  rw [h, bigSep_insert (fun hm => by rw [Finset.mem_Ico] at hm; omega)]
  exact BIBase.Entails.rfl
theorem later_nil (n : ℕ) (P : ℕ → sProp 𝕄) : ⊢ later n n P := by
  unfold later; rw [Finset.Ico_self, bigSep_empty]; exact BIBase.Entails.rfl

variable (val : Fin 4 → ℕ → Dev nD → Blk F) (K : Dev nD × Role → ℕ) (c : Dev nD) (k : Fin 4)

/-- What hop `j` still takes: the credits of what will arrive, the tokens of what is to be paid. -/
def ahead (j : ℕ) : sProp 𝕄 :=
  iprop(due c (some (.come, k)) j N ∗ due c (some (.room, k)) j 1 ∗ tok c (some (.sent, k)) j ∗ tok (dst k c) (some (.come, k)) j
    ∗ tok (src k c) (some (.room, k)) j)
/-- A stream whose hop `n` has gone out. -/
def core (n : ℕ) : sProp 𝕄 :=
  iprop(pos c (some (.sent, k)) n ∗ due c (some (.sent, k)) n N ∗ pos c (some (.come, k)) n ∗ due c (some (.come, k)) n N
    ∗ pos c (some (.room, k)) (n + 1) ∗ later (n + 1) 14 (ahead c k))
/-- The blocks of the result stored so far. -/
def stored (j : ℕ) : sProp 𝕄 := later 0 j fun i => outAt c k (nth i) (val k (i + 7) c)
/-- A stream with its first `j` stores over and no other begun. -/
def free (j : ℕ) : sProp 𝕄 :=
  iprop(pos c (some (.kept, k)) j ∗ at' c (some (.kept, k)) j ∗ later j 8 (fun i => iprop(tok c (some (.kept, k)) i ∗ outAny c k (nth i)))
    ∗ stored val c k j)
/-- A stream with its first `j` stores over and the next one begun. -/
def busy (j : ℕ) : sProp 𝕄 :=
  iprop(pos c (some (.kept, k)) j ∗ due c (some (.kept, k)) j N' ∗ later (j + 1) 8 (fun i => iprop(tok c (some (.kept, k)) i ∗ outAny c k (nth i)))
    ∗ stored val c k j)

/-- A stream at the start. -/
def S₀ : sProp 𝕄 :=
  iprop(pos c (some (.sent, k)) 0 ∗ pos c (some (.come, k)) 0 ∗ pos c (some (.room, k)) 0 ∗ later 0 14 (ahead c k)
    ∗ slotAny c k 0 fullShare ∗ slotAny c k 1 fullShare ∗ free val c k 0)
/-- A stream whose hop `n`, one that adds, has gone out. -/
def S₁ (n : ℕ) : sProp 𝕄 := iprop(core c k n ∗ slotAny c k (par n) fullShare.left ∗ free val c k 0)
/-- A stream whose hop `j + 7`, of a finished block, has gone out, the block's store begun. -/
def S₂ (j : ℕ) : sProp 𝕄 := iprop(core c k (j + 7) ∗ busy val c k j)
/-- A stream whose last store is begun, -/
def S₃ : sProp 𝕄 :=
  iprop(pos c (some (.sent, k)) 14 ∗ pos c (some (.come, k)) 14 ∗ pos c (some (.room, k)) 14
    ∗ slotAny c k 1 fullShare ∗ slotAny c k 0 fullShare.right ∗ busy val c k 7)
/-- and over. -/
def S₄ : sProp 𝕄 :=
  iprop(pos c (some (.sent, k)) 14 ∗ pos c (some (.come, k)) 14 ∗ pos c (some (.room, k)) 14 ∗ pos c (some (.kept, k)) 8
    ∗ slotAny c k 1 fullShare ∗ slotAny c k 0 fullShare ∗ stored val c k 8)

/-- The two halves of a slot make it whole. -/
theorem any_join (s : Fin 2) :
    iprop(slotAny (F := F) c k s fullShare.left ∗ slotAny c k s fullShare.right) ⊢ slotAny (F := F) c k s fullShare :=
  (ownsSat_halves (c : Thread nD τ) (slot bM k s) fullShare fun _ => True).2

variable {val}

/-- A store begins, in a stream's bookkeeping. -/
theorem do_keep (j : ℕ) (hj : j < 8) (s : Fin 2) (i : Fin 8) (hs : s = par (j + 7)) (hi : i = nth j)
    {kk : PUnit → KP F PUnit} {Q : PUnit → sProp 𝕄} :
    iprop(facts val K ∗ slotAt c k s fullShare.left (val k (j + 7) c) ∗ free val c k j)
      ⊢ iprop((busy val c k j -∗ run c (kk ⟨⟩) Q) -∗ run c (keep oM hoM bM hbM cc0_scratch4 c k s i >>= kk) Q) := by
  unfold free busy
  iintro ⟨#HI, Hs, Hp, Hr, Hl, Hd⟩ Hk
  ihave Hl := (later_cons hj _) $$ Hl
  icases Hl with ⟨⟨Ht, Ho⟩, Hl⟩
  iapply (run_keep c k val K j hj s i hs hi) $$ [Hs Ho Ht Hr]
  · isplitr; · iexact HI
    isplitl [Hs]; · iexact Hs
    isplitl [Ho]; · rw [hi]; iexact Ho
    isplitl [Ht]; · iexact Ht
    iexact Hr
  iintro Hc
  iapply Hk
  isplitl [Hp]; · iexact Hp
  isplitl [Hc]; · iexact Hc
  isplitl [Hl]; · iexact Hl
  iexact Hd

/-- A store is over, in a stream's bookkeeping. -/
theorem do_kept (j n a b : ℕ) (hj : j < 8) (s : Fin 2) (i : Fin 8) (hs : s = par (j + 7)) (hi : i = nth j)
    {kk : PUnit → KP F PUnit} {Q : PUnit → sProp 𝕄} :
    iprop(facts val K ∗ owe c (owed c n a b) ∗ busy val c k j)
      ⊢ iprop((iprop(owe c (owed c n a b) ∗ slotAny c k s fullShare.left ∗ free val c k (j + 1)) -∗ run c (kk ⟨⟩) Q)
          -∗ run c (kept oM hoM bM hbM cc0_scratch4 c k s i >>= kk) Q) := by
  unfold free busy stored
  iintro ⟨#HI, HO, Hp, Hc, Hl, Hd⟩ Hk
  iapply (run_kept c k val K j n a b hj s i hs hi) $$ [HO Hp Hc]
  · isplitr; · iexact HI
    isplitl [HO]; · iexact HO
    isplitl [Hp]; · iexact Hp
    iexact Hc
  iintro ⟨HO, Hp, Hr, Hs, Ho⟩
  iapply Hk
  isplitl [HO]; · iexact HO
  isplitl [Hs]; · iexact Hs
  isplitl [Hp]; · iexact Hp
  isplitl [Hr]; · iexact Hr
  isplitl [Hl]; · iexact Hl
  iapply (later_snoc j fun i => outAt c k (nth i) (val k (i + 7) c))
  isplitl [Ho]; · rw [hi]; iexact Ho
  iexact Hd

/-- The next hop of a stream: once the slot it is to land in is free, it is granted; what is sent is put in place by `mid`,
    and the hop goes out. -/
theorem do_next (n : ℕ) (hn : n < 14) {mid : KP F PUnit} {kk : PUnit → KP F PUnit} {Q : PUnit → sProp 𝕄} {R R' : sProp 𝕄}
    (hmid : ∀ kk' : PUnit → KP F PUnit, R ⊢ iprop((iprop(slotAt c k (par n) fullShare (val k n c) ∗ R') -∗ run c (kk' ⟨⟩) Q)
        -∗ run c (mid >>= kk') Q)) :
    iprop(facts val K ∗ owe c (owed c n k.val k.val) ∗ pos c (some (.sent, k)) n ∗ pos c (some (.come, k)) n ∗ pos c (some (.room, k)) n
        ∗ later n 14 (ahead c k) ∗ at' (src k c) (some (.room, k)) n ∗ at' c (some (.come, k)) n ∗ at' c (some (.sent, k)) n
        ∗ slotAny c k (par (n + 1)) fullShare ∗ R)
      ⊢ iprop((iprop(owe c (owed c n (k.val + 1) (k.val + 1)) ∗ core c k n ∗ slotAt c k (par n) fullShare.left (val k n c) ∗ R') -∗ run c (kk ⟨⟩) Q)
          -∗ run c (grant cc0_scratch3 c k >>= fun _ => mid >>= fun _ => fire bM hbM cc0_scratch1 cc0_scratch2 cc0_scratch3 c k n >>= kk) Q) := by
  unfold core
  iintro ⟨#HI, HO, Hps, Hpc, Hpr, Hl, Hrr, Hrc, Hrs, Hs, HR⟩ Hk
  ihave Hl := (later_cons hn _) $$ Hl
  unfold ahead
  icases Hl with ⟨⟨Hdc, Hdr, Hts, Htc, Htr⟩, Hl⟩
  iapply (run_grant c k val K n k.val hn) $$ [HO Htr Hrr Hs Hrc]
  · isplitr; · iexact HI
    isplitl [HO]; · iexact HO
    isplitl [Htr]; · iexact Htr
    isplitl [Hrr]; · iexact Hrr
    isplitl [Hs]; · iexact Hs
    iexact Hrc
  iintro HO
  iapply (hmid _) $$ HR
  iintro ⟨Hs, HR⟩
  ihave Hs := (slot_halves c k (par n) (val k n c)) $$ Hs
  icases Hs with ⟨Hl', Hr'⟩
  iapply (run_fire c k val K n hn) $$ [HO Hpr Hdr Hr' Hts Hrs Htc]
  · isplitr; · iexact HI
    isplitl [HO]; · iexact HO
    isplitl [Hpr]; · iexact Hpr
    isplitl [Hdr]; · iexact Hdr
    isplitl [Hr']; · iexact Hr'
    isplitl [Hts]; · iexact Hts
    isplitl [Hrs]; · iexact Hrs
    iexact Htc
  iintro ⟨HO, Hpr, Hds⟩
  iapply Hk
  isplitl [HO]; · iexact HO
  isplitr [Hl' HR]
  · isplitl [Hps]; · iexact Hps
    isplitl [Hds]; · iexact Hds
    isplitl [Hpc]; · iexact Hpc
    isplitl [Hdc]; · iexact Hdc
    isplitl [Hpr]; · iexact Hpr
    iexact Hl
  isplitl [Hl']; · iexact Hl'
  iexact HR

/-- A hop over, in a stream's bookkeeping. -/
theorem do_arrive (n a b : ℕ) (hn : n < 14) {kk : PUnit → KP F PUnit} {Q : PUnit → sProp 𝕄} :
    iprop(facts val K ∗ owe c (owed c (n + 1) a b) ∗ core c k n)
      ⊢ iprop((iprop(owe c (owed c (n + 1) a b) ∗ pos c (some (.sent, k)) (n + 1) ∗ pos c (some (.come, k)) (n + 1) ∗ pos c (some (.room, k)) (n + 1)
            ∗ later (n + 1) 14 (ahead c k) ∗ at' (src k c) (some (.room, k)) (n + 1) ∗ at' c (some (.come, k)) (n + 1)
            ∗ at' c (some (.sent, k)) (n + 1) ∗ slotAny c k (par n) fullShare.right ∗ slotAt c k (par (n + 1)) fullShare (val k n (src k c)))
          -∗ run c (kk ⟨⟩) Q) -∗ run c (arrive bM hbM cc0_scratch1 cc0_scratch2 k n >>= kk) Q) := by
  unfold core
  iintro ⟨#HI, HO, Hps, Hds, Hpc, Hdc, Hpr, Hl⟩ Hk
  iapply (run_arrive c k val K n a b hn) $$ [HO Hps Hds Hpc Hdc]
  · isplitr; · iexact HI
    isplitl [HO]; · iexact HO
    isplitl [Hps]; · iexact Hps
    isplitl [Hds]; · iexact Hds
    isplitl [Hpc]; · iexact Hpc
    iexact Hdc
  iintro ⟨HO, Hps, Hrs, Hpc, Hrc, Hs, Hs', Hrr⟩
  iapply Hk
  isplitl [HO]; · iexact HO
  isplitl [Hps]; · iexact Hps
  isplitl [Hpc]; · iexact Hpc
  isplitl [Hpr]; · iexact Hpr
  isplitl [Hl]; · iexact Hl
  isplitl [Hrr]; · iexact Hrr
  isplitl [Hrc]; · iexact Hrc
  isplitl [Hrs]; · iexact Hrs
  isplitl [Hs]; · iexact Hs
  iexact Hs'

/-- What an arrived slot is turned into before it is passed on: it is read, and overwritten. -/
theorem do_turn (s : Fin 2) (v : Blk F) (f : FVec F S1x1x512x512 .bf16 → FVec F S1x1x512x512 .bf16)
    {kk : PUnit → KP F PUnit} {Q : PUnit → sProp 𝕄} :
    slotAt c k s fullShare v
      ⊢ iprop((slotAt c k s fullShare (dn (f (up v))) -∗ run c (kk ⟨⟩) Q)
          -∗ run c ((get bM k s >>= fun x => put bM hbM k s (f x)) >>= kk) Q) := by
  simp only [bind_assoc]
  iintro Hs Hk
  iapply (run_get c k s fullShare v) $$ Hs; iintro Hs
  ihave Hs := (slot_any c k s fullShare v) $$ Hs
  iapply (run_put c k s (f (up v))) $$ Hs
  iexact Hk

/-- A stream's beginning, once its first partial product is at hand. -/
theorem step_init (w : FVec F S1x1x512x512 .bf16) (hv : val k 0 c = dn w) {kk : PUnit → KP F PUnit} {Q : PUnit → sProp 𝕄} :
    iprop(facts val K ∗ owe c (owed c 0 k.val k.val) ∗ S₀ val c k)
      ⊢ iprop((iprop(owe c (owed c 0 (k.val + 1) (k.val + 1)) ∗ S₁ val c k 0) -∗ run c (kk ⟨⟩) Q)
          -∗ run c (put bM hbM k 0 w >>= fun _ => grant cc0_scratch3 c k >>= fun _ =>
              fire bM hbM cc0_scratch1 cc0_scratch2 cc0_scratch3 c k 0 >>= kk) Q) := by
  unfold S₀ S₁
  iintro ⟨#HI, HO, Hps, Hpc, Hpr, Hl, Hs0, Hs1, Hf⟩ Hk
  iapply (run_put c k 0 w) $$ Hs0; iintro Hs0
  rw [← hv]
  iapply (do_next (val := val) K c k 0 (by decide) (mid := pure ⟨⟩) (R := slotAt c k 0 fullShare (val k 0 c)) (R' := iprop(emp))
      (fun kk' => by
        rw [pure_bind]
        iintro Hs Hk
        iapply Hk
        isplitl [Hs]; · iexact Hs
        iempintro)) $$ [HO Hps Hpc Hpr Hl Hs0 Hs1]
  · isplitr; · iexact HI
    isplitl [HO]; · iexact HO
    isplitl [Hps]; · iexact Hps
    isplitl [Hpc]; · iexact Hpc
    isplitl [Hpr]; · iexact Hpr
    isplitl [Hl]; · iexact Hl
    isplitr; · iapply (facts_zero val K (src k c) (some (.room, k))) $$ HI
    isplitr; · iapply (facts_zero val K c (some (.come, k))) $$ HI
    isplitr; · iapply (facts_zero val K c (some (.sent, k))) $$ HI
    isplitl [Hs1]; · iexact Hs1
    iexact Hs0
  iintro ⟨HO, Hc, Hs, -⟩
  iapply Hk
  isplitl [HO]; · iexact HO
  isplitl [Hc]; · iexact Hc
  isplitl [Hs]; · iapply (slot_any c k (par 0) fullShare.left _) $$ Hs
  iexact Hf

/-- A hop that turns what arrived by `f` and passes it on: common to the hops that add and the hop that finishes. -/
theorem step_turn (n : ℕ) (hn : n < 13) (f : FVec F S1x1x512x512 .bf16 → FVec F S1x1x512x512 .bf16)
    (hv : val k (n + 1) c = dn (f (up (val k n (src k c))))) {kk : PUnit → KP F PUnit} {Q : PUnit → sProp 𝕄} :
    iprop(facts val K ∗ owe c (owed c (n + 1) k.val k.val) ∗ S₁ val c k n)
      ⊢ iprop((iprop(owe c (owed c (n + 1) (k.val + 1) (k.val + 1)) ∗ core c k (n + 1)
            ∗ slotAt c k (par (n + 1)) fullShare.left (val k (n + 1) c) ∗ free val c k 0) -∗ run c (kk ⟨⟩) Q)
          -∗ run c (arrive bM hbM cc0_scratch1 cc0_scratch2 k n >>= fun _ => grant cc0_scratch3 c k >>= fun _ =>
              (get bM k (par (n + 1)) >>= fun x => put bM hbM k (par (n + 1)) (f x)) >>= fun _ =>
              fire bM hbM cc0_scratch1 cc0_scratch2 cc0_scratch3 c k (n + 1) >>= kk) Q) := by
  unfold S₁
  iintro ⟨#HI, HO, Hc, Hsl, Hf⟩ Hk
  iapply (do_arrive K c k n k.val k.val (by omega)) $$ [HO Hc]
  · isplitr; · iexact HI
    isplitl [HO]; · iexact HO
    iexact Hc
  iintro ⟨HO, Hps, Hpc, Hpr, Hl, Hrr, Hrc, Hrs, Hsr, Hs⟩
  iapply (do_next (val := val) K c k (n + 1) (by omega) (R := slotAt c k (par (n + 1)) fullShare (val k n (src k c))) (R' := iprop(emp))
      (fun kk' => by
        iintro Hs Hk
        iapply (do_turn c k (par (n + 1)) (val k n (src k c)) f) $$ Hs
        iintro Hs
        iapply Hk
        isplitl [Hs]; · rw [hv]; iexact Hs
        iempintro)) $$ [HO Hps Hpc Hpr Hl Hrr Hrc Hrs Hsl Hsr Hs]
  · isplitr; · iexact HI
    isplitl [HO]; · iexact HO
    isplitl [Hps]; · iexact Hps
    isplitl [Hpc]; · iexact Hpc
    isplitl [Hpr]; · iexact Hpr
    isplitl [Hl]; · iexact Hl
    isplitl [Hrr]; · iexact Hrr
    isplitl [Hrc]; · iexact Hrc
    isplitl [Hrs]; · iexact Hrs
    isplitl [Hsl Hsr]
    · rw [par_add_two]
      iapply (any_join c k (par n))
      isplitl [Hsl]; · iexact Hsl
      iexact Hsr
    iexact Hs
  iintro ⟨HO, Hc, Hs, -⟩
  iapply Hk
  isplitl [HO]; · iexact HO
  isplitl [Hc]; · iexact Hc
  isplitl [Hs]; · iexact Hs
  iexact Hf

/-- A hop that adds. -/
theorem step_add (n : ℕ) (hn : n < 6) (p : FVec F S512x512 .f32) (hv : val k (n + 1) c = dn (k0_pay13 p (up (val k n (src k c)))))
    {kk : PUnit → KP F PUnit} {Q : PUnit → sProp 𝕄} :
    iprop(facts val K ∗ owe c (owed c (n + 1) k.val k.val) ∗ S₁ val c k n)
      ⊢ iprop((iprop(owe c (owed c (n + 1) (k.val + 1) (k.val + 1)) ∗ S₁ val c k (n + 1)) -∗ run c (kk ⟨⟩) Q)
          -∗ run c (addStep bM hbM cc0_scratch1 cc0_scratch2 cc0_scratch3 c k n p >>= kk) Q) := by
  have h := step_turn K c k n (by omega) (k0_pay13 p) hv (kk := kk) (Q := Q)
  unfold addStep
  simp only [bind_assoc] at h ⊢
  iintro H Hk
  iapply h $$ H
  iintro ⟨HO, Hc, Hs, Hf⟩
  iapply Hk
  isplitl [HO]; · iexact HO
  unfold S₁
  isplitl [Hc]; · iexact Hc
  isplitl [Hs]; · iapply (slot_any c k (par (n + 1)) fullShare.left _) $$ Hs
  iexact Hf

/-- The hop that finishes. -/
theorem step_fin (sc : F .f32) (p : FVec F S512x512 .f32) (hv : val k 7 c = dn (k0_pay66 sc p (up (val k 6 (src k c)))))
    {kk : PUnit → KP F PUnit} {Q : PUnit → sProp 𝕄} :
    iprop(facts val K ∗ owe c (owed c 7 k.val k.val) ∗ S₁ val c k 6)
      ⊢ iprop((iprop(owe c (owed c 7 (k.val + 1) (k.val + 1)) ∗ S₂ val c k 0) -∗ run c (kk ⟨⟩) Q)
          -∗ run c (finStep oM hoM bM hbM cc0_scratch1 cc0_scratch2 cc0_scratch3 cc0_scratch4 c k sc p >>= kk) Q) := by
  have h := step_turn K c k 6 (by omega) (k0_pay66 sc p) hv
    (kk := fun _ => keep oM hoM bM hbM cc0_scratch4 c k (par 7) 0 >>= kk) (Q := Q)
  unfold finStep
  simp only [bind_assoc] at h ⊢
  iintro ⟨#HI, HO, HS⟩ Hk
  iapply h $$ [HO HS]
  · isplitr; · iexact HI
    isplitl [HO]; · iexact HO
    iexact HS
  iintro ⟨HO, Hc, Hs, Hf⟩
  iapply (do_keep K c k 0 (by decide) (par 7) 0 rfl rfl) $$ [Hs Hf]
  · isplitr; · iexact HI
    isplitl [Hs]; · iexact Hs
    iexact Hf
  iintro Hb
  iapply Hk
  isplitl [HO]; · iexact HO
  unfold S₂
  isplitl [Hc]; · iexact Hc
  iexact Hb

/-- A hop that passes a finished block on. -/
theorem step_pass (t : Fin 6) (hv : val k (t.val + 8) c = val k (t.val + 7) (src k c))
    {kk : PUnit → KP F PUnit} {Q : PUnit → sProp 𝕄} :
    iprop(facts val K ∗ owe c (owed c (t.val + 8) k.val k.val) ∗ S₂ val c k t.val)
      ⊢ iprop((iprop(owe c (owed c (t.val + 8) (k.val + 1) (k.val + 1)) ∗ S₂ val c k (t.val + 1)) -∗ run c (kk ⟨⟩) Q)
          -∗ run c (passStep oM hoM bM hbM cc0_scratch1 cc0_scratch2 cc0_scratch3 cc0_scratch4 c t k >>= kk) Q) := by
  have ht := t.isLt
  unfold passStep S₂
  rw [Nat.add_comm 7 t.val, Nat.add_comm 8 t.val]
  simp only [bind_assoc]
  iintro ⟨#HI, HO, Hc, Hb⟩ Hk
  iapply (do_arrive K c k (t.val + 7) k.val k.val (by omega)) $$ [HO Hc]
  · isplitr; · iexact HI
    isplitl [HO]; · iexact HO
    iexact Hc
  iintro ⟨HO, Hps, Hpc, Hpr, Hl, Hrr, Hrc, Hrs, Hsr, Hs⟩
  iapply (do_kept K c k t.val (t.val + 8) k.val k.val (by omega) (par (t.val + 7)) t.castSucc.castSucc rfl
      (Fin.ext (by simp [nth]; omega))) $$ [HO Hb]
  · isplitr; · iexact HI
    isplitl [HO]; · iexact HO
    iexact Hb
  iintro ⟨HO, Hsl, Hf⟩
  have h := do_next K c k (val := val) (t.val + 8) (by omega) (mid := pure ⟨⟩) (Q := Q) (R := slotAt c k (par (t.val + 8)) fullShare (val k (t.val + 8) c)) (R' := iprop(emp))
      (kk := fun _ => keep oM hoM bM hbM cc0_scratch4 c k (par (t.val + 8)) t.succ.castSucc >>= kk)
      (fun kk' => by
        rw [pure_bind]
        iintro Hs Hk
        iapply Hk
        isplitl [Hs]; · iexact Hs
        iempintro)
  simp only [pure_bind] at h
  iapply h $$ [HO Hps Hpc Hpr Hl Hrr Hrc Hrs Hsl Hsr Hs]
  · isplitr; · iexact HI
    isplitl [HO]; · iexact HO
    isplitl [Hps]; · iexact Hps
    isplitl [Hpc]; · iexact Hpc
    isplitl [Hpr]; · iexact Hpr
    isplitl [Hl]; · iexact Hl
    isplitl [Hrr]; · iexact Hrr
    isplitl [Hrc]; · iexact Hrc
    isplitl [Hrs]; · iexact Hrs
    isplitl [Hsl Hsr]
    · rw [par_add_two (t.val + 7)]
      iapply (any_join c k (par (t.val + 7)))
      isplitl [Hsl]; · iexact Hsl
      iexact Hsr
    rw [hv]; iexact Hs
  iintro ⟨HO, Hc, Hs, -⟩
  iapply (do_keep K c k (t.val + 1) (by omega) (par (t.val + 8)) t.succ.castSucc (by rw [Nat.add_right_comm])
      (Fin.ext (by simp [nth]; omega))) $$ [Hs Hf]
  · isplitr; · iexact HI
    isplitl [Hs]; · rw [Nat.add_right_comm]; iexact Hs
    iexact Hf
  iintro Hb
  iapply Hk
  isplitl [HO]; · iexact HO
  isplitl [Hc]; · rw [Nat.add_right_comm]; iexact Hc
  iexact Hb

/-- The last hop. -/
theorem step_last (hv : val k 14 c = val k 13 (src k c)) {kk : PUnit → KP F PUnit} {Q : PUnit → sProp 𝕄} :
    iprop(facts val K ∗ owe c (owed c 14 0 0) ∗ S₂ val c k 6)
      ⊢ iprop((iprop(owe c (owed c 14 0 0) ∗ S₃ val c k) -∗ run c (kk ⟨⟩) Q)
          -∗ run c (lastStep oM hoM bM hbM cc0_scratch1 cc0_scratch2 cc0_scratch4 c k >>= kk) Q) := by
  unfold lastStep S₂ S₃
  simp only [bind_assoc]
  iintro ⟨#HI, HO, Hc, Hb⟩ Hk
  iapply (do_arrive K c k 13 0 0 (by omega)) $$ [HO Hc]
  · isplitr; · iexact HI
    isplitl [HO]; · iexact HO
    iexact Hc
  iintro ⟨HO, Hps, Hpc, Hpr, -, -, -, -, Hsr, Hs⟩
  iapply (do_kept K c k 6 14 0 0 (by omega) (par 13) 6 rfl rfl) $$ [HO Hb]
  · isplitr; · iexact HI
    isplitl [HO]; · iexact HO
    iexact Hb
  iintro ⟨HO, Hsl, Hf⟩
  rw [← hv]
  ihave Hs := (slot_halves c k (par 14) (val k 14 c)) $$ Hs
  icases Hs with ⟨Hl', Hr'⟩
  iapply (do_keep K c k 7 (by omega) (par 14) 7 rfl rfl) $$ [Hl' Hf]
  · isplitr; · iexact HI
    isplitl [Hl']; · iexact Hl'
    iexact Hf
  iintro Hb
  iapply Hk
  isplitl [HO]; · iexact HO
  isplitl [Hps]; · iexact Hps
  isplitl [Hpc]; · iexact Hpc
  isplitl [Hpr]; · iexact Hpr
  isplitl [Hsl Hsr]
  · iapply (any_join c k 1)
    isplitl [Hsl]; · iexact Hsl
    iexact Hsr
  isplitl [Hr']; · iapply (slot_any c k (par 14) fullShare.right _) $$ Hr'
  iexact Hb

/-- The last store. -/
theorem step_end {kk : PUnit → KP F PUnit} {Q : PUnit → sProp 𝕄} :
    iprop(facts val K ∗ owe c (owed c 14 0 0) ∗ S₃ val c k)
      ⊢ iprop((iprop(owe c (owed c 14 0 0) ∗ S₄ val c k) -∗ run c (kk ⟨⟩) Q)
          -∗ run c (kept oM hoM bM hbM cc0_scratch4 c k (par 14) 7 >>= kk) Q) := by
  unfold S₃ S₄
  iintro ⟨#HI, HO, Hps, Hpc, Hpr, Hs1, Hs0, Hb⟩ Hk
  iapply (do_kept K c k 7 14 0 0 (by omega) (par 14) 7 rfl rfl) $$ [HO Hb]
  · isplitr; · iexact HI
    isplitl [HO]; · iexact HO
    iexact Hb
  unfold free
  iintro ⟨HO, Hsl, ⟨Hp, -, -, Hd⟩⟩
  iapply Hk
  isplitl [HO]; · iexact HO
  isplitl [Hps]; · iexact Hps
  isplitl [Hpc]; · iexact Hpc
  isplitl [Hpr]; · iexact Hpr
  isplitl [Hp]; · iexact Hp
  isplitl [Hs1]; · iexact Hs1
  isplitl [Hsl Hs0]
  · iapply (any_join c k 0)
    isplitl [Hsl]; · iexact Hsl
    iexact Hs0
  iexact Hd

end Cert.KernelIdeal.Ring

end
-- ==== Proof.Body.lean ====
/- The whole body: the entry, the hops of the four streams, and what the device holds at the end. -/
module

public import proofs.«01_k».proof.Proof.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The operands, and what the streams carry -/

/-- One device's operands, as staged. -/
structure Ops (F : FTy → Type) where
  x : (cc0_stg0_0 : Ref sig .tc).ty.Contents (Elt F)
  w : (cc0_stg1_0 : Ref sig .tc).ty.Contents (Elt F)
  sx : (cc0_stg2_0 : Ref sig .tc).ty.Contents (Elt F)
  sw : (cc0_stg3_0 : Ref sig .tc).ty.Contents (Elt F)

abbrev xM : Memref sig .tc .vmem S4096x512 .fp8e5m2 := Memref.whole cc0_stg0_0
abbrev wM : Memref sig .tc .vmem S512x2048 .fp8e5m2 := Memref.whole cc0_stg1_0
abbrev sxM : Memref sig .tc .smem S1 .f32 := Memref.whole cc0_stg2_0
abbrev swM : Memref sig .tc .smem S1 .f32 := Memref.whole cc0_stg3_0

/-- A whole buffer at given contents. -/
abbrev hold (c : Dev nD) (b : Ref sig .tc) (X : b.ty.Contents (Elt F)) : sProp 𝕄 :=
  (((c : Thread nD τ).loc b) ↦{fullShare} (X : Buf (Elt F) ((c : Thread nD τ).loc b)))

/-- The one place of a one-element array. -/
def at1 : (Rect.unit (s := S1) ![0] S1.size inb_S1_S1_0).shape.Idx := Shape.Idx.first (by decide)
/-- The scale. -/
def scale (o : Ops F) : F .f32 :=
  k0_pay1 ((sxM.access (Rect.unit (s := S1) ![0] S1.size inb_S1_S1_0)).read (Elt F) o.sx at1)
    ((swM.access (Rect.unit (s := S1) ![0] S1.size inb_S1_S1_0)).read (Elt F) o.sw at1)
/-- The rows of `x` at an offset, -/
def xAt (o : Ops F) (off : Fin 2 → ℕ) (h : ∀ a, off a + S512x512.size a ≤ S4096x512.size a) : Vec F S512x512 .fp8e5m2 :=
  xM.view.readAt (Elt F) (Rect.unit (s := S4096x512) off S512x512.size h).toLoadRect o.x
/-- and a stream's columns of `w`. -/
def wAt (o : Ops F) (k : Fin 4) : Vec F S512x512 .fp8e5m2 := wM.view.readAt (Elt F) (colR k).toLoadRect o.w
/-- The partial product stream `k` starts with, -/
def first (o : Ops F) (c : Dev nD) (k : Fin 4) : FVec F S1x1x512x512 .bf16 :=
  k0_pay8 (xAt o (k0_off1 c) (k0_off1_inb c)) (wAt o k)
/-- and the one it adds at hop `r`. -/
def more (o : Ops F) (c : Dev nD) (r : Fin 7) (k : Fin 4) : FVec F S512x512 .f32 :=
  k0_pay9 (xAt o (xOff k r c) (xOff_inb k r c)) (wAt o k)

/-- What a device sends at a hop of a stream: sums so far, then the scaled and clipped sum, then others' such sums. -/
def carry (O : Dev nD → Ops F) (k : Fin 4) : ℕ → Dev nD → Blk F
  | 0, c => dn (first (O c) c k)
  | h + 1, c =>
      if hh : h < 6 then dn (k0_pay13 (more (O c) c ⟨h, Nat.lt_succ_of_lt hh⟩ k) (up (carry O k h (src k c))))
      else if h = 6 then dn (k0_pay66 (scale (O c)) (more (O c) c 6 k) (up (carry O k h (src k c))))
      else carry O k h (src k c)

theorem carry_add (O : Dev nD → Ops F) (k : Fin 4) (r : Fin 6) (c : Dev nD) :
    carry O k (r.val + 1) c = dn (k0_pay13 (more (O c) c r.castSucc k) (up (carry O k r.val (src k c)))) := by
  rw [carry, dif_pos r.isLt]; rfl
theorem carry_fin (O : Dev nD → Ops F) (k : Fin 4) (c : Dev nD) :
    carry O k 7 c = dn (k0_pay66 (scale (O c)) (more (O c) c 6 k) (up (carry O k 6 (src k c)))) := by
  rw [carry, dif_neg (Nat.lt_irrefl 6), if_pos rfl]
theorem carry_pass (O : Dev nD → Ops F) (k : Fin 4) (t : ℕ) (c : Dev nD) : carry O k (t + 8) c = carry O k (t + 7) (src k c) := by
  rw [carry, dif_neg (by omega), if_neg (by omega)]

/-! ## The entry -/

variable (O : Dev nD → Ops F) (K : Dev nD × Role → ℕ) (c : Dev nD)

/-- The four operands in place. -/
def given : sProp 𝕄 :=
  iprop(hold c cc0_stg0_0 (O c).x ∗ hold c cc0_stg1_0 (O c).w ∗ hold c cc0_stg2_0 (O c).sx ∗ hold c cc0_stg3_0 (O c).sw)

/-- The tokens of the two barrier units a device pays. -/
def tellBoth : sProp 𝕄 := iprop(dutyTok ER (cell (prv c) none) 0 true ∗ dutyTok ER (cell (nxt c) none) 0 false)

/-- Both of a barrier's duties are there. -/
theorem bar_mem (d : Dev nD) (b : Bool) : b ∈ (rd (carry O)).duties (cell d none) 0 := by
  rw [rd_duties]; exact Finset.mem_univ _

/-- The entry. -/
theorem run_entry {kk : F .f32 → KP F PUnit} {Q : PUnit → sProp 𝕄} :
    iprop(facts (carry O) K ∗ owe c (owed₀ c) ∗ tellBoth c ∗ pos c none 0 ∗ due c none 0 2 ∗ given O c)
      ⊢ iprop((iprop(owe c (owed c 0 0 0) ∗ pos c none 1 ∗ given O c) -∗ run c (kk (scale (O c))) Q)
          -∗ run c (entry sxM swM c >>= kk) Q) := by
  unfold entry owe semSignalWord semWaitWord smemLoad smemLoadElt tellBoth given
  simp only [Prog.lift, Prog.bind_op, Prog.bind_ret, Prog.pure_eq_ret, bind_assoc]
  iintro ⟨#HI, ⟨%W, HO⟩, ⟨Htp, Htn⟩, Hp, Hd, Hx, Hw, Hsx, Hsw⟩ Hk
  ihave #Hp' := (facts_cell (carry O) K (prv c) none) $$ HI
  ihave #Hn' := (facts_cell (carry O) K (nxt c) none) $$ HI
  ihave #Hc' := (facts_cell (carry O) K c none) $$ HI
  iapply (Rounds.wp_signal 𝒱₀ ER (rd (carry O)) (c : Thread nD τ) none (dst := (prv c : Thread nD τ)) (κ := K (prv c, none)) (r := 0)
      (d := true) (bar_mem O _ _) ((rd_amount (carry O) (prv c) none 0 true).trans rfl) 0 _ rfl) $$ [HO Htp]
  · isplitr; · iexact Hp'
    isplitl [HO]; · iexact HO
    isplitl [Htp]; · iexact Htp
    isplitr
    · iapply (Entails.of_eq (rd_payload (carry O) (prv c) none 0 true).symm)
      dsimp only [payOf]; iempintro
    iapply (facts_zero (carry O) K (prv c) none) $$ HI
  iintro HO
  iapply (Rounds.wp_signal 𝒱₀ ER (rd (carry O)) (c : Thread nD τ) none (dst := (nxt c : Thread nD τ)) (κ := K (nxt c, none)) (r := 0)
      (d := false) (bar_mem O _ _) ((rd_amount (carry O) (nxt c) none 0 false).trans rfl) 0 _ rfl) $$ [HO Htn]
  · isplitr; · iexact Hn'
    isplitl [HO]; · iexact HO
    isplitl [Htn]; · iexact Htn
    isplitr
    · iapply (Entails.of_eq (rd_payload (carry O) (nxt c) none 0 false).symm)
      dsimp only [payOf]; iempintro
    iapply (facts_zero (carry O) K (nxt c) none) $$ HI
  iintro HO
  iapply (Rounds.wp_wait_rest_token 𝒱₀ ER (rd (carry O)) (c : Thread nD τ) none (κ := K (c, none))
      (wpE_semWait_eq 𝒱₀ (c : Thread nD τ) none Set.univ) (Set.mem_univ _) 0 (O := owed c 0 0 0) (W := W) (R := 0) (m := 0) (T := ∅)
      (by rw [rd_expect_bar]; decide)) $$ [Hd HO Hp]
  · isplitr; · iexact Hc'
    isplitl [Hd]; · iexact Hd
    isplitl [HO]; · iexact HO
    isplitr
    · iapply (mayWait c _ 0 0 0 0 1 (by omega) (lv_cell c none 0).le
        (fun k' => by unfold lvl; split <;> omega) (fun k' => by unfold lvl; split <;> omega))
      iapply (facts_lev (carry O) K) $$ HI
    iexact Hp
  iintro ⟨HO, Hp, -, -⟩
  iapply (wp_load_rect 𝒱₀ (c : Thread nD τ) none Set.univ (m := sxM) (r := Rect.unit (s := S1) ![0] S1.size inb_S1_S1_0) (Finset.subset_univ _)) $$ Hsx; iintro Hsx
  iapply (wp_load_rect 𝒱₀ (c : Thread nD τ) none Set.univ (m := swM) (r := Rect.unit (s := S1) ![0] S1.size inb_S1_S1_0) (Finset.subset_univ _)) $$ Hsw; iintro Hsw
  iapply Hk
  isplitl [HO]; · iexists _; iexact HO
  isplitl [Hp]; · iexact Hp
  isplitl [Hx]; · iexact Hx
  isplitl [Hw]; · iexact Hw
  isplitl [Hsx]; · iexact Hsx
  iexact Hsw

/-! ## The hops -/

/-- A partial product. -/
theorem run_part (r : Fin 7) (k : Fin 4) {kk : FVec F S512x512 .f32 → KP F PUnit} {Q : PUnit → sProp 𝕄} :
    given O c ⊢ iprop((given O c -∗ run c (kk (more (O c) c r k)) Q) -∗ run c (part xM wM c r k >>= kk) Q) := by
  unfold part given
  simp only [Prog.lift, Prog.bind_op, Prog.bind_ret, Prog.pure_eq_ret]
  iintro ⟨Hx, Hw, Hs⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx]; · iexact Hx
  isplitl [Hw]; · iexact Hw
  iexact Hs

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The four streams in turn, each with its own resources, the debts going down as they go. -/
theorem run_four {f : Fin 4 → KP F PUnit} {D : ℕ → CellTallies nD τ sig ℕ} {R : sProp 𝕄} {P P' : Fin 4 → sProp 𝕄} {kk : PUnit → KP F PUnit}
    {Q : PUnit → sProp 𝕄}
    (h : ∀ (k : Fin 4) (kk' : PUnit → KP F PUnit), iprop(facts (carry O) K ∗ owe c (D k.val) ∗ R ∗ P k)
        ⊢ iprop((iprop(owe c (D (k.val + 1)) ∗ R ∗ P' k) -∗ run c (kk' ⟨⟩) Q) -∗ run c (f k >>= kk') Q)) :
    iprop(facts (carry O) K ∗ owe c (D 0) ∗ R ∗ bigSep Finset.univ P)
      ⊢ iprop((iprop(owe c (D 4) ∗ R ∗ bigSep Finset.univ P') -∗ run c (kk ⟨⟩) Q) -∗ run c (four f >>= kk) Q) := by
  unfold four
  rw [bigSep_four, bigSep_four]
  simp only [bind_assoc]
  iintro ⟨#HI, HO, HR, H0, H1, H2, H3⟩ Hk
  iapply (h 0 _) $$ [HO HR H0]
  · isplitr; · iexact HI
    isplitl [HO]; · iexact HO
    isplitl [HR]; · iexact HR
    iexact H0
  iintro ⟨HO, HR, H0⟩
  iapply (h 1 _) $$ [HO HR H1]
  · isplitr; · iexact HI
    isplitl [HO]; · iexact HO
    isplitl [HR]; · iexact HR
    iexact H1
  iintro ⟨HO, HR, H1⟩
  iapply (h 2 _) $$ [HO HR H2]
  · isplitr; · iexact HI
    isplitl [HO]; · iexact HO
    isplitl [HR]; · iexact HR
    iexact H2
  iintro ⟨HO, HR, H2⟩
  iapply (h 3 _) $$ [HO HR H3]
  · isplitr; · iexact HI
    isplitl [HO]; · iexact HO
    isplitl [HR]; · iexact HR
    iexact H3
  iintro ⟨HO, HR, H3⟩
  iapply Hk
  isplitl [HO]; · iexact HO
  isplitl [HR]; · iexact HR
  isplitl [H0]; · iexact H0
  isplitl [H1]; · iexact H1
  isplitl [H2]; · iexact H2
  iexact H3

/-- What the device holds between hops. -/
def hub (n : ℕ) (P : Fin 4 → sProp 𝕄) : sProp 𝕄 := iprop(owe c (owed c n 0 0) ∗ given O c ∗ bigSep Finset.univ P)

/-- A step of every stream at hop `n`, each step keeping the operands, takes the device to the next hop. -/
theorem run_hub (n : ℕ) {f : Fin 4 → KP F PUnit} {P P' : Fin 4 → sProp 𝕄} {kk : PUnit → KP F PUnit} {Q : PUnit → sProp 𝕄}
    (h : ∀ (k : Fin 4) (kk' : PUnit → KP F PUnit), iprop(facts (carry O) K ∗ owe c (owed c n k.val k.val) ∗ P k)
        ⊢ iprop((iprop(owe c (owed c n (k.val + 1) (k.val + 1)) ∗ P' k) -∗ run c (kk' ⟨⟩) Q) -∗ run c (f k >>= kk') Q)) :
    iprop(facts (carry O) K ∗ hub O c n P) ⊢ iprop((hub O c (n + 1) P' -∗ run c (kk ⟨⟩) Q) -∗ run c (four f >>= kk) Q) := by
  unfold hub
  rw [← owed_four c n]
  exact run_four O K c (D := fun j => owed c n j j) (fun k kk' => by
    iintro ⟨#HI, HO, HR, HP⟩ Hk
    iapply (h k kk') $$ [HO HP]
    · isplitr; · iexact HI
      isplitl [HO]; · iexact HO
      iexact HP
    iintro ⟨HO, HP⟩
    iapply Hk
    isplitl [HO]; · iexact HO
    isplitl [HR]; · iexact HR
    iexact HP)

/-- The same once nothing more is owed. -/
theorem run_rest {f : Fin 4 → KP F PUnit} {P P' : Fin 4 → sProp 𝕄} {kk : PUnit → KP F PUnit} {Q : PUnit → sProp 𝕄}
    (h : ∀ (k : Fin 4) (kk' : PUnit → KP F PUnit), iprop(facts (carry O) K ∗ owe c (owed c 14 0 0) ∗ P k)
        ⊢ iprop((iprop(owe c (owed c 14 0 0) ∗ P' k) -∗ run c (kk' ⟨⟩) Q) -∗ run c (f k >>= kk') Q)) :
    iprop(facts (carry O) K ∗ hub O c 14 P) ⊢ iprop((hub O c 14 P' -∗ run c (kk ⟨⟩) Q) -∗ run c (four f >>= kk) Q) := by
  unfold hub
  exact run_four O K c (D := fun _ => owed c 14 0 0) (fun k kk' => by
    iintro ⟨#HI, HO, HR, HP⟩ Hk
    iapply (h k kk') $$ [HO HP]
    · isplitr; · iexact HI
      isplitl [HO]; · iexact HO
      iexact HP
    iintro ⟨HO, HP⟩
    iapply Hk
    isplitl [HO]; · iexact HO
    isplitl [HR]; · iexact HR
    iexact HP)

/-- The four streams begin. -/
theorem run_init {kk : PUnit → KP F PUnit} {Q : PUnit → sProp 𝕄} :
    iprop(facts (carry O) K ∗ hub O c 0 (S₀ (carry O) c))
      ⊢ iprop((hub O c 1 (fun k => S₁ (carry O) c k 0) -∗ run c (kk ⟨⟩) Q)
          -∗ run c (four (init xM wM bM hbM cc0_scratch1 cc0_scratch2 cc0_scratch3 c) >>= kk) Q) := by
  unfold hub
  rw [← owed_four c 0]
  refine run_four O K c (D := fun j => owed c 0 j j) fun k kk' => ?_
  unfold init given
  simp only [Prog.lift, Prog.bind_op, Prog.bind_ret, bind_assoc]
  iintro ⟨#HI, HO, ⟨Hx, Hw, Hs⟩, HP⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (step_init (val := carry O) K c k (first (O c) c k) rfl) $$ [HO HP]
  · isplitr; · iexact HI
    isplitl [HO]; · iexact HO
    iexact HP
  iintro ⟨HO, HP⟩
  iapply Hk
  isplitl [HO]; · iexact HO
  isplitr [HP]
  · isplitl [Hx]; · iexact Hx
    isplitl [Hw]; · iexact Hw
    iexact Hs
  iexact HP

/-- A hop of the four streams that takes a partial product each. -/
theorem run_with (r : Fin 7) (n : ℕ) {P : Fin 4 → sProp 𝕄} {G : FVec F S512x512 .f32 → FVec F S512x512 .f32 → FVec F S512x512 .f32 →
      FVec F S512x512 .f32 → KP F PUnit} {kk : PUnit → KP F PUnit} {Q : PUnit → sProp 𝕄}  :
    hub O c n P
      ⊢ iprop((hub O c n P -∗ run c (G (more (O c) c r 0) (more (O c) c r 1) (more (O c) c r 2) (more (O c) c r 3) >>= kk) Q)
        -∗ run c (part xM wM c r 0 >>= fun p0 => part xM wM c r 1 >>= fun p1 => part xM wM c r 2 >>= fun p2 => part xM wM c r 3 >>= fun p3 =>
            G p0 p1 p2 p3 >>= kk) Q) := by
  unfold hub
  iintro ⟨HO, HR, HP⟩ Hk
  iapply (run_part O c r 0) $$ HR; iintro HR
  iapply (run_part O c r 1) $$ HR; iintro HR
  iapply (run_part O c r 2) $$ HR; iintro HR
  iapply (run_part O c r 3) $$ HR; iintro HR
  iapply Hk
  isplitl [HO]; · iexact HO
  isplitl [HR]; · iexact HR
  iexact HP

theorem pick {α : Type} (p : Fin 4 → α) (k : Fin 4) : ![p 0, p 1, p 2, p 3] k = p k := by fin_cases k <;> rfl

/-- A hop that adds. -/
theorem run_add (r : Fin 6) {kk : PUnit → KP F PUnit} {Q : PUnit → sProp 𝕄} :
    iprop(facts (carry O) K ∗ hub O c (r.val + 1) (fun k => S₁ (carry O) c k r.val))
      ⊢ iprop((hub O c (r.val + 2) (fun k => S₁ (carry O) c k (r.val + 1)) -∗ run c (kk ⟨⟩) Q)
          -∗ run c (addHop xM wM bM hbM cc0_scratch1 cc0_scratch2 cc0_scratch3 c r.castSucc >>= kk) Q) := by
  unfold addHop
  simp only [bind_assoc]
  iintro ⟨#HI, HH⟩ Hk
  iapply (run_with O c r.castSucc (r.val + 1)) $$ HH; iintro HH
  iapply (run_hub O K c (r.val + 1) (P' := fun k => S₁ (carry O) c k (r.val + 1)) fun k kk' =>
    step_add (val := carry O) K c k r.val r.isLt _ (by rw [pick (more (O c) c r.castSucc)]; exact carry_add O k r c)) $$ [HH]
  · isplitr; · iexact HI
    iexact HH
  iexact Hk

/-- The hop that finishes. -/
theorem run_fin {kk : PUnit → KP F PUnit} {Q : PUnit → sProp 𝕄} :
    iprop(facts (carry O) K ∗ hub O c 7 (fun k => S₁ (carry O) c k 6))
      ⊢ iprop((hub O c 8 (fun k => S₂ (carry O) c k 0) -∗ run c (kk ⟨⟩) Q)
          -∗ run c (finHop xM wM oM hoM bM hbM cc0_scratch1 cc0_scratch2 cc0_scratch3 cc0_scratch4 c (scale (O c)) >>= kk) Q) := by
  unfold finHop
  simp only [bind_assoc]
  iintro ⟨#HI, HH⟩ Hk
  iapply (run_with O c 6 7) $$ HH; iintro HH
  iapply (run_hub O K c 7 (P' := fun k => S₂ (carry O) c k 0) fun k kk' =>
    step_fin (val := carry O) K c k _ _ (by rw [pick (more (O c) c 6)]; exact carry_fin O k c)) $$ [HH]
  · isplitr; · iexact HI
    iexact HH
  iexact Hk

/-- A hop that passes on. -/
theorem run_pass (t : Fin 6) {kk : PUnit → KP F PUnit} {Q : PUnit → sProp 𝕄} :
    iprop(facts (carry O) K ∗ hub O c (t.val + 8) (fun k => S₂ (carry O) c k t.val))
      ⊢ iprop((hub O c (t.val + 9) (fun k => S₂ (carry O) c k (t.val + 1)) -∗ run c (kk ⟨⟩) Q)
          -∗ run c (four (passStep oM hoM bM hbM cc0_scratch1 cc0_scratch2 cc0_scratch3 cc0_scratch4 c t) >>= kk) Q) :=
  run_hub O K c (t.val + 8) fun k kk' => step_pass (val := carry O) K c k t (carry_pass O k t.val c)

/-! ## All of it -/

/-- What a device starts from. -/
def bodyPre : sProp 𝕄 :=
  iprop(owe c (owed₀ c) ∗ tellBoth c ∗ pos c none 0 ∗ due c none 0 2 ∗ given O c ∗ bigSep Finset.univ (S₀ (carry O) c))

/-- The body, from `bodyPre`. -/
theorem run_body {Q : PUnit → sProp 𝕄} :
    iprop(facts (carry O) K ∗ bodyPre O c)
      ⊢ iprop((iprop(pos c none 1 ∗ hub O c 14 (S₄ (carry O) c)) -∗ |={Set.univ}=> Q ⟨⟩)
          -∗ run c (body xM wM sxM swM oM hoM bM hbM cc0_scratch1 cc0_scratch2 cc0_scratch3 cc0_scratch4) Q) := by
  unfold body bodyPre
  simp only [Prog.lift, Prog.bind_op, Prog.bind_ret, wp_deviceId]
  iintro ⟨#HI, HO, Ht, Hp, Hd, HR, HP⟩ Hk
  iapply (run_entry O K c) $$ [HO Ht Hp Hd HR]
  · isplitr; · iexact HI
    isplitl [HO]; · iexact HO
    isplitl [Ht]; · iexact Ht
    isplitl [Hp]; · iexact Hp
    isplitl [Hd]; · iexact Hd
    iexact HR
  iintro ⟨HO, Hp, HR⟩
  iapply (run_init O K c) $$ [HO HR HP]
  · isplitr; · iexact HI
    unfold hub
    isplitl [HO]; · iexact HO
    isplitl [HR]; · iexact HR
    iexact HP
  iintro HH
  iapply (run_add O K c 0) $$ [HH]; · (isplitr; · iexact HI); iexact HH
  iintro HH
  iapply (run_add O K c 1) $$ [HH]; · (isplitr; · iexact HI); iexact HH
  iintro HH
  iapply (run_add O K c 2) $$ [HH]; · (isplitr; · iexact HI); iexact HH
  iintro HH
  iapply (run_add O K c 3) $$ [HH]; · (isplitr; · iexact HI); iexact HH
  iintro HH
  iapply (run_add O K c 4) $$ [HH]; · (isplitr; · iexact HI); iexact HH
  iintro HH
  iapply (run_add O K c 5) $$ [HH]; · (isplitr; · iexact HI); iexact HH
  iintro HH
  iapply (run_fin O K c) $$ [HH]; · (isplitr; · iexact HI); iexact HH
  iintro HH
  iapply (run_pass O K c 0) $$ [HH]; · (isplitr; · iexact HI); iexact HH
  iintro HH
  iapply (run_pass O K c 1) $$ [HH]; · (isplitr; · iexact HI); iexact HH
  iintro HH
  iapply (run_pass O K c 2) $$ [HH]; · (isplitr; · iexact HI); iexact HH
  iintro HH
  iapply (run_pass O K c 3) $$ [HH]; · (isplitr; · iexact HI); iexact HH
  iintro HH
  iapply (run_pass O K c 4) $$ [HH]; · (isplitr; · iexact HI); iexact HH
  iintro HH
  iapply (run_pass O K c 5) $$ [HH]; · (isplitr; · iexact HI); iexact HH
  iintro HH
  iapply (run_rest O K c (P' := S₃ (carry O) c) fun k kk' => step_last (val := carry O) K c k (carry_pass O k 6 c)) $$ [HH]
  · (isplitr; · iexact HI); iexact HH
  iintro HH
  rw [show (four fun k => kept oM hoM bM hbM cc0_scratch4 c k (par 14) 7 : KP F PUnit)
    = (four fun k => kept oM hoM bM hbM cc0_scratch4 c k (par 14) 7) >>= fun u => pure u from (bind_pure _).symm]
  iapply (run_rest O K c (P' := S₄ (carry O) c) fun k kk' => step_end (val := carry O) K c k) $$ [HH]
  · (isplitr; · iexact HI); iexact HH
  iintro HH
  rw [Prog.pure_eq_ret]
  unfold run
  rw [wp_ret]
  iapply Hk
  isplitl [Hp]; · iexact Hp
  iexact HH

end Cert.KernelIdeal.Ring

end
-- ==== Proof.Deal.lean ====
/- What the launch deals each device: its positions, the tokens it pays with, and the credits it waits on. -/
module

public import proofs.«01_k».proof.Proof.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The semaphores one by one -/

/-- One resource for each stream. -/
abbrev streams (P : Fin 4 → sProp 𝕄) : sProp 𝕄 := bigSep Finset.univ P

/-- A resource of every semaphore of a device: the barrier's, and the streams'; -/
theorem by_job (Φ : Role → sProp 𝕄) :
    bigSep Finset.univ Φ = iprop(Φ none ∗ bigSep Finset.univ fun x : Job × Fin 4 => Φ (some x)) := by
  have hu : (Finset.univ : Finset Role) = insert none (Finset.univ.map Function.Embedding.some) := by
    ext r; cases r <;> simp
  rw [hu, bigSep_insert (by simp), bigSep_map]; rfl
/-- the streams' job by job. -/
theorem by_role (Φ : Role → sProp 𝕄) :
    bigSep Finset.univ Φ = iprop(Φ none ∗ streams (fun k => Φ (some (.sent, k))) ∗ streams (fun k => Φ (some (.come, k)))
      ∗ streams (fun k => Φ (some (.room, k))) ∗ streams fun k => Φ (some (.kept, k))) := by
  rw [by_job, bigSep_univ_prod (M := 𝕄)]
  exact congrArg (fun P => iprop(Φ none ∗ P)) (bigSep_univ_eq_bigSepL [Job.sent, .come, .room, .kept] (by decide) (by decide) _)

/-- Devices first or streams first. -/
theorem by_stream (Φ : Dev nD → Fin 4 → sProp 𝕄) :
    (bigSep Finset.univ fun c => streams (Φ c)) = streams fun k => bigSep Finset.univ fun c => Φ c k := by
  unfold streams
  rw [← bigSep_univ_prod (fun x : Dev nD × Fin 4 => Φ x.1 x.2), bigSep_univ_equiv (Equiv.prodComm (Fin 4) (Dev nD)), bigSep_univ_prod (M := 𝕄)]
  rfl

/-- Resources of every device and stream may be dealt along the streams. -/
theorem dealt (e : Fin 4 → Dev nD ≃ Dev nD) (Φ : Dev nD → Fin 4 → sProp 𝕄) :
    (bigSep Finset.univ fun c => streams (Φ c)) = bigSep Finset.univ fun c => streams fun k => Φ (e k c) k := by
  rw [by_stream, by_stream]
  exact bigSep_congr fun k _ => bigSep_univ_equiv (e k) fun c => Φ c k

/-! ## The tokens -/

def cells : Finset (GSem nD τ sig) := Finset.univ.map ⟨fun cr : Dev nD × Role => cell cr.1 cr.2, cell_inj⟩

/-- Tokens for fourteen rounds of every semaphore, two a round. -/
abbrev coin (x : (Dev nD × Role) × Fin 14 × Bool) : GSem nD τ sig × ℕ × Bool := (cell x.1.1 x.1.2, x.2.1.val, x.2.2)
theorem coin_inj : Function.Injective coin := by
  rintro ⟨cr, i, b⟩ ⟨cr', i', b'⟩ h
  have h1 : cr = cr' := cell_inj (congrArg Prod.fst h)
  have h2 : i = i' := Fin.ext (congrArg (fun x : GSem nD τ sig × ℕ × Bool => x.2.1) h)
  have h3 : b = b' := congrArg (fun x : GSem nD τ sig × ℕ × Bool => x.2.2) h
  rw [h1, h2, h3]
def coins : Finset (GSem nD τ sig × ℕ × Bool) := Finset.univ.map ⟨coin, coin_inj⟩

/-- A semaphore's tokens. -/
def purse (c : Dev nD) (r : Role) : sProp 𝕄 :=
  bigSep Finset.univ fun ib : Fin 14 × Bool => dutyTok ER (cell c r) ib.1.val ib.2

theorem later_fins (n : ℕ) (P : ℕ → sProp 𝕄) : later 0 n P = bigSep Finset.univ fun j : Fin n => P j.val := by
  have h : Finset.Ico 0 n = (Finset.univ : Finset (Fin n)).map ⟨Fin.val, Fin.val_injective⟩ := by
    ext x
    simp only [Finset.mem_Ico, Finset.mem_map, Finset.mem_univ, true_and, Function.Embedding.coeFn_mk]
    exact ⟨fun h => ⟨⟨x, h.2⟩, rfl⟩, fun ⟨a, ha⟩ => ha ▸ ⟨Nat.zero_le _, a.isLt⟩⟩
  unfold later
  rw [h, bigSep_map]; rfl

theorem later_fewer (P : ℕ → sProp 𝕄) {n b : ℕ} (h : b ≤ n) : later 0 n P ⊢ later 0 b P :=
  bigSep_subset (Finset.Ico_subset_Ico_right h)

/-- Of a stream's semaphore's tokens, one a round is kept; -/
theorem purse_toks (c : Dev nD) (r : Role) : purse c r ⊢ (later 0 14 (tok c r) : sProp 𝕄) := by
  unfold purse
  rw [bigSep_univ_prod (M := 𝕄), later_fins]
  exact bigSep_mono fun i _ => bigSep_elim (Finset.mem_univ false)
/-- of the barrier's, the first round's two. -/
theorem purse_bar (c : Dev nD) :
    purse c none ⊢ (iprop(dutyTok ER (cell c none) 0 true ∗ dutyTok ER (cell c none) 0 false) : sProp 𝕄) := by
  unfold purse
  rw [bigSep_univ_prod (M := 𝕄)]
  refine (show _ ⊢ (_ : sProp 𝕄) from bigSep_elim (Finset.mem_univ (0 : Fin 14))).trans (Entails.of_eq ?_)
  exact bigSep_univ_eq_bigSepL [true, false] (by decide) (by decide) _

/-- The tokens a device pays with. -/
def payToks (c : Dev nD) : sProp 𝕄 :=
  iprop(tellBoth c ∗ streams (fun k => later 0 14 (tok c (some (.sent, k)))) ∗ streams (fun k => later 0 14 (tok (dst k c) (some (.come, k))))
    ∗ streams (fun k => later 0 14 (tok (src k c) (some (.room, k)))) ∗ streams fun k => later 0 8 (tok c (some (.kept, k))))

/-- All the tokens, dealt to those who pay with them. -/
theorem toks_dealt : (bigSep Finset.univ fun c : Dev nD => bigSep Finset.univ (purse c) : sProp 𝕄) ⊢ bigSep Finset.univ payToks := by
  have h1 (c : Dev nD) : (bigSep Finset.univ (purse c) : sProp 𝕄)
      ⊢ iprop((dutyTok ER (cell c none) 0 true ∗ dutyTok ER (cell c none) 0 false)
        ∗ streams (fun k => later 0 14 (tok c (some (.sent, k)))) ∗ streams (fun k => later 0 14 (tok c (some (.come, k))))
        ∗ streams (fun k => later 0 14 (tok c (some (.room, k)))) ∗ streams fun k => later 0 8 (tok c (some (.kept, k)))) := by
    rw [by_role]
    exact sep_mono (purse_bar c) (sep_mono (bigSep_mono fun k _ => purse_toks c _) (sep_mono (bigSep_mono fun k _ => purse_toks c _)
      (sep_mono (bigSep_mono fun k _ => purse_toks c _) (bigSep_mono fun k _ => (purse_toks c _).trans (later_fewer _ (by omega))))))
  refine BIBase.Entails.trans (bigSep_mono fun c _ => h1 c) (Entails.of_eq ?_)
  unfold payToks tellBoth
  simp only [bigSep_sep']
  rw [bigSep_univ_equiv around.symm (fun c : Dev nD => (dutyTok ER (cell c none) 0 true : sProp 𝕄)),
    bigSep_univ_equiv around (fun c : Dev nD => (dutyTok ER (cell c none) 0 false : sProp 𝕄)),
    dealt along (fun c k => later 0 14 (tok c (some (.come, k)))), dealt (fun k => (along k).symm) (fun c k => later 0 14 (tok c (some (.room, k))))]
  rfl

/-! ## The credits -/

/-- The credits a device waits on. -/
def credits (c : Dev nD) : sProp 𝕄 :=
  iprop(due c none 0 2 ∗ streams (fun k => later 0 14 fun j => due c (some (.come, k)) j N) ∗ streams fun k => later 0 14 fun j => due c (some (.room, k)) j 1)

/-- Whatever the devices owe at launch, its devices are credited with. -/
theorem creds (c : Dev nD) : (Pipeline.launchCred owed₀ c : sProp 𝕄) ⊢ credits c := by
  have hl (k : Fin 4) : lvl 0 0 k = 0 := if_neg (Nat.not_lt_zero _)
  have ho : owed₀ = fun d => (((∑ k : Fin 4, ∑ j ∈ Finset.Ico 0 14, (tallyAt (cell (src k d) (some (.room, k))) j 1 : CellTallies nD τ sig ℕ))
      + ∑ k : Fin 4, ∑ j ∈ Finset.Ico 0 14, (tallyAt (cell (dst k d) (some (.come, k))) j N : CellTallies nD τ sig ℕ))
      + tallyAt (cell (nxt d) none) 0 1) + tallyAt (cell (prv d) none) 0 1 := by
    funext d; unfold owed₀ owed; simp only [hl]
  rw [ho, Pipeline.launchCred_add (fun d => ((∑ k : Fin 4, ∑ j ∈ Finset.Ico 0 14, (tallyAt (cell (src k d) (some (.room, k))) j 1 : CellTallies nD τ sig ℕ))
      + ∑ k : Fin 4, ∑ j ∈ Finset.Ico 0 14, (tallyAt (cell (dst k d) (some (.come, k))) j N : CellTallies nD τ sig ℕ))
      + tallyAt (cell (nxt d) none) 0 1) (fun d => tallyAt (cell (prv d) none) 0 1),
    Pipeline.launchCred_add (fun d => (∑ k : Fin 4, ∑ j ∈ Finset.Ico 0 14, (tallyAt (cell (src k d) (some (.room, k))) j 1 : CellTallies nD τ sig ℕ))
      + ∑ k : Fin 4, ∑ j ∈ Finset.Ico 0 14, (tallyAt (cell (dst k d) (some (.come, k))) j N : CellTallies nD τ sig ℕ)) (fun d => tallyAt (cell (nxt d) none) 0 1),
    Pipeline.launchCred_add (fun d => ∑ k : Fin 4, ∑ j ∈ Finset.Ico 0 14, (tallyAt (cell (src k d) (some (.room, k))) j 1 : CellTallies nD τ sig ℕ))
      (fun d => ∑ k : Fin 4, ∑ j ∈ Finset.Ico 0 14, (tallyAt (cell (dst k d) (some (.come, k))) j N : CellTallies nD τ sig ℕ)),
    Pipeline.launchCred_sum Finset.univ (fun k d => ∑ j ∈ Finset.Ico 0 14, (tallyAt (cell (src k d) (some (.room, k))) j 1 : CellTallies nD τ sig ℕ)),
    Pipeline.launchCred_sum Finset.univ (fun k d => ∑ j ∈ Finset.Ico 0 14, (tallyAt (cell (dst k d) (some (.come, k))) j N : CellTallies nD τ sig ℕ))]
  have hr : (bigSep Finset.univ fun k : Fin 4 => Pipeline.launchCred (fun d => ∑ j ∈ Finset.Ico 0 14, (tallyAt (cell (src k d) (some (.room, k))) j 1 : CellTallies nD τ sig ℕ)) c : sProp 𝕄)
      ⊢ streams fun k => later 0 14 fun j => due c (some (.room, k)) j 1 := bigSep_mono fun k _ => by
    rw [Pipeline.launchCred_sum (Finset.Ico 0 14) (fun j d => (tallyAt (cell (src k d) (some (.room, k))) j 1 : CellTallies nD τ sig ℕ))]
    exact bigSep_mono fun j _ => Pipeline.launchCred_tallyAt (csem (some (.room, k))) (src k) (dst k) (src_dst k) (dst_src k) j 1 c
  have hc : (bigSep Finset.univ fun k : Fin 4 => Pipeline.launchCred (fun d => ∑ j ∈ Finset.Ico 0 14, (tallyAt (cell (dst k d) (some (.come, k))) j N : CellTallies nD τ sig ℕ)) c : sProp 𝕄)
      ⊢ streams fun k => later 0 14 fun j => due c (some (.come, k)) j N := bigSep_mono fun k _ => by
    rw [Pipeline.launchCred_sum (Finset.Ico 0 14) (fun j d => (tallyAt (cell (dst k d) (some (.come, k))) j N : CellTallies nD τ sig ℕ))]
    exact bigSep_mono fun j _ => Pipeline.launchCred_tallyAt (csem (some (.come, k))) (dst k) (src k) (dst_src k) (src_dst k) j N c
  have h2 : iprop(due c none 0 1 ∗ due c none 0 1) ⊢ (due c none 0 2 : sProp 𝕄) := by
    have e : (tallyAt (cell c none) 0 2 : CellTallies nD τ sig ℕ) = tallyAt (cell c none) 0 1 + tallyAt (cell c none) 0 1 := by
      unfold tallyAt; rw [← tallyOn_add, ← Finsupp.single_add]
    exact (cred_add _ _).2.trans (Entails.of_eq (congrArg cred e.symm))
  unfold credits
  iintro ⟨⟨⟨HR, HC⟩, Hn⟩, Hp⟩
  ihave Hn := (Pipeline.launchCred_tallyAt (csem none) nxt prv nxt_prv prv_nxt 0 1 c) $$ Hn
  ihave Hp := (Pipeline.launchCred_tallyAt (csem none) prv nxt prv_nxt nxt_prv 0 1 c) $$ Hp
  isplitl [Hn Hp]
  · iapply h2
    isplitl [Hn] <;> iassumption
  isplitl [HC]
  · iapply hc; iexact HC
  iapply hr; iexact HR

end Cert.KernelIdeal.Ring

end
-- ==== Proof.Blocks.lean ====
/- The scratch buffer as its eight slots, and the result as its thirty-two blocks. -/
module

public import proofs.«01_k».proof.Proof.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig ℕ (Elt F) ℕ UU ℕ

/-! ## Where the blocks are -/

/-- A device's place in the ring. -/
def place (d : Dev nD) : ℕ := if d.val < 4 then d.val else 11 - d.val
/-- Which row of blocks stream `k`'s `j`-th store writes. -/
def oRow (k : Fin 4) (j : Fin 8) (d : Dev nD) : ℕ :=
  if k.val < 2 then (place d + 17 - j.val) % 8 else (place d + 7 + j.val) % 8

theorem oOff_eq : ∀ (k : Fin 4) (j : Fin 8) (d : Dev nD), oOff k j d = ![512 * oRow k j d, 512 * k.val] := by decide +kernel
theorem oRow_inj : ∀ (k : Fin 4) (d : Dev nD) (j j' : Fin 8), j ≠ j' → oRow k j d < oRow k j' d ∨ oRow k j' d < oRow k j d := by
  decide +kernel
theorem oRow_onto : ∀ (k : Fin 4) (d : Dev nD) (a : Fin 8), ∃ j, oRow k j d = a.val := by decide +kernel

theorem out_disjoint (d : Dev nD) (t t' : Fin 4 × Fin 8) (h : t ≠ t') : Disjoint (outR t.1 t.2 d).set (outR t'.1 t'.2 d).set := by
  obtain ⟨k, j⟩ := t
  obtain ⟨k', j'⟩ := t'
  by_cases hk : k = k'
  · subst hk
    refine Rect.unit_disjoint (0 : Fin 2) ?_
    have hj := oRow_inj k d j j' (fun e => h (by rw [e]))
    rw [oOff_eq, oOff_eq]
    show 512 * oRow k j d + 512 ≤ 512 * oRow k j' d ∨ 512 * oRow k j' d + 512 ≤ 512 * oRow k j d
    omega
  · refine Rect.unit_disjoint (1 : Fin 2) ?_
    have hk' : k.val ≠ k'.val := fun e => hk (Fin.ext e)
    rw [oOff_eq, oOff_eq]
    show 512 * k.val + 512 ≤ 512 * k'.val ∨ 512 * k'.val + 512 ≤ 512 * k.val
    omega

/-- Every place of the result is in a block. -/
theorem out_at (d : Dev nD) (i : S4096x2048.Idx) : ∃ t : Fin 4 × Fin 8, i ∈ (outR t.1 t.2 d).set := by
  have h0 : (i 0).val < 4096 := (i 0).isLt
  have h1 : (i 1).val < 2048 := (i 1).isLt
  obtain ⟨j, hj⟩ := oRow_onto ⟨(i 1).val / 512, by omega⟩ d ⟨(i 0).val / 512, by omega⟩
  refine ⟨(⟨(i 1).val / 512, by omega⟩, j), Rect.mem_set_unit.mpr ?_⟩
  rw [oOff_eq, hj]
  refine Fin.forall_fin_two.mpr ⟨?_, ?_⟩
  · show 512 * ((i 0).val / 512) ≤ (i 0).val ∧ (i 0).val < 512 * ((i 0).val / 512) + 512; omega
  · show 512 * ((i 1).val / 512) ≤ (i 1).val ∧ (i 1).val < 512 * ((i 1).val / 512) + 512; omega
theorem out_cover (d : Dev nD) : (Finset.univ : Finset (Fin 4 × Fin 8)).biUnion (fun t => (outR t.1 t.2 d).set) = Finset.univ :=
  Finset.eq_univ_iff_forall.mpr fun i => let ⟨t, ht⟩ := out_at d i; Finset.mem_biUnion.mpr ⟨t, Finset.mem_univ t, ht⟩

theorem slot_disjoint (t t' : Fin 4 × Fin 2) (h : t ≠ t') : Disjoint (slotR t.1 t.2).set (slotR t'.1 t'.2).set := by
  obtain ⟨k, s⟩ := t
  obtain ⟨k', s'⟩ := t'
  by_cases hk : k = k'
  · subst hk
    refine Rect.unit_disjoint (1 : Fin 4) ?_
    have hs : s.val ≠ s'.val := fun e => h (by rw [Fin.ext e])
    show s.val + 1 ≤ s'.val ∨ s'.val + 1 ≤ s.val
    omega
  · refine Rect.unit_disjoint (0 : Fin 4) ?_
    have hk' : k.val ≠ k'.val := fun e => hk (Fin.ext e)
    show k.val + 1 ≤ k'.val ∨ k'.val + 1 ≤ k.val
    omega
theorem slot_cover : (Finset.univ : Finset (Fin 4 × Fin 2)).biUnion (fun t => (slotR t.1 t.2).set) = Finset.univ := by
  refine Finset.eq_univ_iff_forall.mpr fun i => Finset.mem_biUnion.mpr ⟨(i 0, i 1), Finset.mem_univ _, Rect.mem_set_unit.mpr ?_⟩
  have h2 : (i 2).val < 512 := (i 2).isLt
  have h3 : (i 3).val < 512 := (i 3).isLt
  intro a
  fin_cases a
  · exact ⟨Nat.le_refl _, Nat.lt_succ_self _⟩
  · exact ⟨Nat.le_refl _, Nat.lt_succ_self _⟩
  · exact ⟨Nat.zero_le _, by show (i 2).val < 0 + 512; omega⟩
  · exact ⟨Nat.zero_le _, by show (i 3).val < 0 + 512; omega⟩

/-! ## The buffers as their parts -/

theorem whole_sat (c : Dev nD) (b : Ref sig .tc) (q : PosShare TreeShare) (P : b.ty.Contents (Elt F) → Prop) :
    (ownsSat (c : Thread nD τ) (Memref.whole b) q P : sProp 𝕄)
      = iprop(∃ f : Buf (Elt F) ((c : Thread nD τ).loc b), ⌜P f⌝ ∗ (((c : Thread nD τ).loc b) ↦{q} f)) := by
  unfold ownsSat; simp only [Memref.view_whole, View.read_whole, View.set_whole]

/-- The scratch buffer's slots, two for each stream. -/
def slots (c : Dev nD) : sProp 𝕄 := bigSep Finset.univ fun k : Fin 4 => iprop(slotAny c k 0 fullShare ∗ slotAny c k 1 fullShare)
theorem slots_eq (c : Dev nD) : (slots c : sProp 𝕄)
    = bigSep Finset.univ fun t : Fin 4 × Fin 2 => ownsSat (c : Thread nD τ) (bM.slice (slotR t.1 t.2) (fun _ => rfl)) fullShare fun _ => True := by
  rw [bigSep_univ_prod (M := 𝕄)]
  unfold slots
  exact bigSep_congr fun k _ => by
    rw [slotAny_eq, slotAny_eq]
    exact (bigSep_univ_eq_bigSepL (M := 𝕄) [(0 : Fin 2), 1] (by decide) (by decide)
      fun s => ownsSat (c : Thread nD τ) (win k s) fullShare fun _ => True).symm

theorem scratch_slots (c : Dev nD) :
    iprop(∃ f : Buf (Elt F) ((c : Thread nD τ).loc cc0_scratch0), (((c : Thread nD τ).loc cc0_scratch0) ↦{fullShare} f)) ⊢ (slots c : sProp 𝕄) := by
  rw [slots_eq]
  refine BIBase.Entails.trans ?_ (ownsSat_rects (c : Thread nD τ) bM fullShare (fun t : Fin 4 × Fin 2 => slotR t.1 t.2) (fun _ _ => rfl) slot_disjoint
    slot_cover fun _ _ => True)
  rw [whole_sat]
  iintro ⟨%f, H⟩
  iexists f
  isplitr; · ipureintro; exact fun _ => trivial
  iexact H
theorem slots_scratch (c : Dev nD) :
    (slots c : sProp 𝕄) ⊢ iprop(∃ f : Buf (Elt F) ((c : Thread nD τ).loc cc0_scratch0), (((c : Thread nD τ).loc cc0_scratch0) ↦{fullShare} f)) := by
  rw [slots_eq]
  refine (ownsSat_of_rects (c : Thread nD τ) bM fullShare (fun t : Fin 4 × Fin 2 => slotR t.1 t.2) (fun _ _ => rfl) slot_disjoint
    slot_cover fun _ _ => True).trans ?_
  rw [whole_sat]
  iintro ⟨%f, -, H⟩
  iexists f; iexact H

theorem later_fin (P : ℕ → sProp 𝕄) : later 0 8 P = bigSep Finset.univ fun j : Fin 8 => P j.val := by
  have h : Finset.Ico 0 8 = (Finset.univ : Finset (Fin 8)).map ⟨Fin.val, Fin.val_injective⟩ := by decide
  unfold later
  rw [h, bigSep_map]; rfl
theorem nth_val (j : Fin 8) : nth j.val = j := Fin.ext (Nat.mod_eq_of_lt j.isLt)

/-- The result's blocks, whatever they hold. -/
theorem out_blocks (c : Dev nD) (f : Buf (Elt F) ((c : Thread nD τ).loc main_v1)) :
    (((c : Thread nD τ).loc main_v1) ↦{fullShare} f) ⊢ (bigSep Finset.univ fun k : Fin 4 => later 0 8 fun i => outAny c k (nth i) : sProp 𝕄) := by
  simp only [later_fin, nth_val]
  rw [← bigSep_univ_prod (fun t : Fin 4 × Fin 8 => (outAny c t.1 t.2 : sProp 𝕄))]
  refine BIBase.Entails.trans ?_ (ownsSat_rects (c : Thread nD τ) oM fullShare (fun t : Fin 4 × Fin 8 => outR t.1 t.2 c) (fun _ _ => rfl) (out_disjoint c)
    (out_cover c) fun _ _ => True)
  rw [whole_sat]
  iintro H
  iexists f
  isplitr; · ipureintro; exact fun _ => trivial
  iexact H

/-- What a device's result is to be: at each block, what its stream carried. -/
def Made (val : Fin 4 → ℕ → Dev nD → Blk F) (c : Dev nD) (X : S4096x2048.Idx → Elt F .bf16) : Prop :=
  ∀ t : Fin 4 × Fin 8, (fun i => X ((outR t.1 t.2 c).emb i)) = val t.1 (t.2.val + 7) c

/-- The stored blocks are the whole result. -/
theorem blocks_out (val : Fin 4 → ℕ → Dev nD → Blk F) (c : Dev nD) :
    (bigSep Finset.univ fun k : Fin 4 => stored val c k 8 : sProp 𝕄)
      ⊢ iprop(∃ f : Buf (Elt F) ((c : Thread nD τ).loc main_v1), ⌜Made val c f⌝ ∗ (((c : Thread nD τ).loc main_v1) ↦{fullShare} f)) := by
  unfold stored
  simp only [later_fin, nth_val]
  rw [← bigSep_univ_prod (fun t : Fin 4 × Fin 8 => (outAt c t.1 t.2 (val t.1 (t.2.val + 7) c) : sProp 𝕄))]
  refine BIBase.Entails.trans ?_ (Entails.of_eq (whole_sat c main_v1 fullShare (Made val c)))
  exact ownsSat_of_rects (c : Thread nD τ) oM fullShare (fun t : Fin 4 × Fin 8 => outR t.1 t.2 c) (fun _ _ => rfl) (out_disjoint c)
    (out_cover c) fun t v => v = val t.1 (t.2.val + 7) c

end Cert.KernelIdeal.Ring

end
-- ==== Proof.ShapeEq.lean ====
/- The printed body is the program of `Shape`. -/
module

public import proofs.«01_k».proof.Proof.Shape

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The printed body is the program written step by step. -/
theorem body_eq (arg0 : Memref sig .tc .vmem S4096x512 .fp8e5m2) (harg0 : arg0.IsWhole) (arg1 : Memref sig .tc .vmem S512x2048 .fp8e5m2) (harg1 : arg1.IsWhole) (arg2 : Memref sig .tc .smem S1 .f32) (harg2 : arg2.IsWhole) (arg3 : Memref sig .tc .smem S1 .f32) (harg3 : arg3.IsWhole) (arg4 : Memref sig .tc .hbm S4096x2048 .bf16) (harg4 : arg4.IsWhole) (arg5 : Memref sig .tc .vmem S4x2x512x512 .bf16) (harg5 : arg5.IsWhole) (arg6 : DmaSems sig S4) (arg7 : DmaSems sig S4) (arg8 : Sems sig S4) (arg9 : DmaSems sig S4) :
    cc0_body (F := F) arg0 harg0 arg1 harg1 arg2 harg2 arg3 harg3 arg4 harg4 arg5 harg5 arg6 arg7 arg8 arg9
      = body arg0 arg1 arg2 arg3 arg4 harg4 arg5 harg5 arg6 arg7 arg8 arg9 := by
  sl_kernel_rfl

end Cert.KernelIdeal.Ring

end
-- ==== Proof.Start.lean ====
/- The kernel run on all devices: the launch, the body between what it is dealt and what it leaves, and the end. -/
module

public import proofs.«01_k».proof.Proof.Deal
public import proofs.«01_k».proof.Proof.Blocks
public import proofs.«01_k».proof.Proof.ShapeEq
public import proofs.«01_k».proof.Proof.Gen.KernelIdeal.Points
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

/-! ## From what a device is dealt to what its streams start from -/

section Between

variable (O : Dev nD → Ops F) (K : Dev nD × Role → ℕ) (c : Dev nD)

/-- A buffer at some contents. -/
abbrev some' (b : Ref sig .tc) : sProp 𝕄 := iprop(∃ f : Buf (Elt F) ((c : Thread nD τ).loc b), ((c : Thread nD τ).loc b) ↦{fullShare} f)

/-- What a device is dealt, besides what everyone knows and its memory. -/
def hand : sProp 𝕄 := iprop(bigSep Finset.univ (fun r : Role => pos c r 0) ∗ payToks c ∗ credits c)

theorem at_kept : facts (carry O) K ⊢ streams fun k => at' c (some (.kept, k)) 0 :=
  (bigSep_of_persistent Finset.univ (facts (carry O) K)).trans (bigSep_mono fun k _ => facts_zero (carry O) K c _)

/-- A device's hand and its memory make the streams' starts. -/
theorem to_streams :
    iprop(facts (carry O) K ∗ hand c ∗ some' c cc0_scratch0 ∗ some' c main_v1)
      ⊢ iprop(tellBoth c ∗ pos c none 0 ∗ due c none 0 2 ∗ streams (S₀ (carry O) c)) := by
  have hs (k : Fin 4) : (stored (carry O) c k 0 : sProp 𝕄) = iprop(emp) := by
    unfold stored later; rw [Finset.Ico_self, bigSep_empty]; rfl
  have hb : some' c main_v1 ⊢ (streams fun k => later 0 8 fun i => outAny c k (nth i) : sProp 𝕄) := by
    iintro ⟨%f, H⟩; iapply (out_blocks c f); iexact H
  unfold hand payToks credits S₀ free ahead
  rw [by_role]
  iintro ⟨#HI, ⟨⟨Hp, Hp1, Hp2, Hp3, Hp4⟩, ⟨Ht, Ht1, Ht2, Ht3, Ht4⟩, Hd, Hd2, Hd3⟩, Hs, Ho⟩
  ihave Ha := (at_kept O K c) $$ HI
  ihave Hs := (scratch_slots (F := F) c) $$ Hs
  ihave Ho := hb $$ Ho
  isplitl [Ht]; · iexact Ht
  isplitl [Hp]; · iexact Hp
  isplitl [Hd]; · iexact Hd
  simp only [hs]
  unfold slots later streams
  simp only [bigSep_sep']
  icases Hs with ⟨Hs0, Hs1⟩
  isplitl [Hp1]; · iexact Hp1
  isplitl [Hp2]; · iexact Hp2
  isplitl [Hp3]; · iexact Hp3
  isplitl [Hd2 Hd3 Ht1 Ht2 Ht3]
  · isplitl [Hd2]; · iexact Hd2
    isplitl [Hd3]; · iexact Hd3
    isplitl [Ht1]; · iexact Ht1
    isplitl [Ht2]; · iexact Ht2
    iexact Ht3
  isplitl [Hs0]; · iexact Hs0
  isplitl [Hs1]; · iexact Hs1
  isplitl [Hp4]; · iexact Hp4
  isplitl [Ha]; · iexact Ha
  isplitl [Ht4 Ho]
  · isplitl [Ht4]; · iexact Ht4
    iexact Ho
  iapply (Entails.of_eq (bigSep_emp_const (M := 𝕄) (Finset.univ : Finset (Fin 4))).symm)
  iempintro

/-- How many rounds each semaphore goes through. -/
def over : Role → ℕ | none => 1 | some (j, _) => rounds j

/-- A semaphore whose rounds are over is at zero. -/
theorem close (r : Role) : iprop(facts (carry O) K ∗ pos c r (over r)) ⊢ (|={Set.univ}=> semVal (cell c r) 0 : sProp 𝕄) := by
  refine (sep_mono_left (facts_cell (carry O) K c r)).trans
    (Rounds.cell_close ER (rd (carry O)) (Set.mem_univ _) (fun h => h) (R := over r) ?_)
  rcases r with _ | ⟨j, k⟩
  · exact rd_over_bar (carry O) c
  · exact rd_over (carry O) c k

/-- What a device has when its streams are over. -/
def left : sProp 𝕄 :=
  iprop(bigSep Finset.univ (fun r : Role => semVal (cell c r) 0) ∗ some' c cc0_scratch0
    ∗ ∃ f : Buf (Elt F) ((c : Thread nD τ).loc main_v1), ⌜Made (carry O) c f⌝ ∗ ((c : Thread nD τ).loc main_v1) ↦{fullShare} f)

theorem from_streams :
    iprop(facts (carry O) K ∗ pos c none 1 ∗ streams (S₄ (carry O) c)) ⊢ (|={Set.univ}=> left O c : sProp 𝕄) := by
  have hc : iprop(facts (carry O) K ∗ bigSep Finset.univ fun r : Role => pos c r (over r))
      ⊢ (|={Set.univ}=> bigSep Finset.univ fun r : Role => semVal (cell c r) 0 : sProp 𝕄) := by
    refine BIBase.Entails.trans ((sep_mono_left (bigSep_of_persistent (Finset.univ : Finset Role) (facts (carry O) K))).trans ?_) (bigSep_fupd _ _)
    rw [← bigSep_sep']
    exact bigSep_mono fun r _ => close O K c r
  unfold S₄ streams
  simp only [bigSep_sep']
  iintro ⟨#HI, Hp, Hp1, Hp2, Hp3, Hp4, Hs1, Hs0, Ho⟩
  imod hc $$ [Hp Hp1 Hp2 Hp3 Hp4] with Hv
  · isplitr; · iexact HI
    rw [by_role]
    isplitl [Hp]; · iexact Hp
    isplitl [Hp1]; · iexact Hp1
    isplitl [Hp2]; · iexact Hp2
    isplitl [Hp3]; · iexact Hp3
    iexact Hp4
  imodintro
  unfold left
  isplitl [Hv]; · iexact Hv
  isplitl [Hs1 Hs0]
  · iapply (slots_scratch (F := F) c)
    unfold slots
    rw [bigSep_sep']
    isplitl [Hs0]; · iexact Hs0
    iexact Hs1
  iapply (blocks_out (carry O) c); iexact Ho

end Between

/-! ## The proof data -/

variable (m : (ℓ : Loc nD τ sig) → Buf (Elt F) ℓ) (ρ : Dev nD → PrngReg)

/-- The operands as the launch finds them. -/
def ops (c : Dev nD) : Ops F where
  x := (win0_0.blk (0 : Fin 1)).view.read (Elt F) (m ((c : Thread nD τ).loc main_arg0))
  w := (win0_1.blk (0 : Fin 1)).view.read (Elt F) (m ((c : Thread nD τ).loc main_arg1))
  sx := (win0_2.blk (0 : Fin 1)).view.read (Elt F) (m ((c : Thread nD τ).loc main_arg2))
  sw := (win0_3.blk (0 : Fin 1)).view.read (Elt F) (m ((c : Thread nD τ).loc main_arg3))

/-- What the body starts from, -/
def ready (c : Dev nD) : sProp 𝕄 := iprop((∃ K, facts (carry (ops m)) K) ∗ hand c ∗ some' c main_v1)

def dats (_ : Fin 1) (c : Dev nD) : Dat τ (Elt F) ℕ ℕ UU ℕ cfg0 c where
  A w := m ((cfg0.win w).arr.view.loc (c : Thread nD τ))
  after w _ := match w with
    | ⟨0, _⟩ => (ops m c).x
    | ⟨1, _⟩ => (ops m c).w
    | ⟨2, _⟩ => (ops m c).sx
    | ⟨3, _⟩ => (ops m c).sw
  Φ t := match t with
    | ⟨0, _⟩ => iprop(ready m c ∗ some' c cc0_scratch0)
    | ⟨_ + 1, _⟩ => left (ops m) c
  q _ := fullShare
  owed t := match t with
    | ⟨0, _⟩ => owed₀ c
    | ⟨_ + 1, _⟩ => 0

theorem whole_eq (c : Dev nD) (b : Ref sig .tc) (X : b.ty.Contents (Elt F)) :
    (owns (Ix := ℕ) (Name := ℕ) (U := UU) (Lvl := ℕ) (c : Thread nD τ) (Memref.whole b) fullShare X : sProp 𝕄)
      = hold c b X := by
  unfold owns; simp only [Memref.view_whole, View.read_whole, View.set_whole]
  refine BI.Entails.antisymm (show _ ⊢ (_ : sProp 𝕄) from ?_) (show _ ⊢ (_ : sProp 𝕄) from ?_)
  · iintro ⟨%f, %hf, H⟩; subst hf; iexact H
  · iintro H; iexists _; isplitr; · (ipureintro; rfl)
    iexact H

/-- The kernel the pipeline calls, at its one point. -/
theorem point_eq : (defs₀ (F := F) Proc.tc 0 (t0_0, cfg0.slots t0_0))
    = body xM wM sxM swM oM hoM bM hbM cc0_scratch1 cc0_scratch2 cc0_scratch3 cc0_scratch4 :=
  (show defs₀ (F := F) Proc.tc 0 (t0_0, cfg0.slots t0_0) = cc0_body (F := F) xM (Memref.isWhole_whole _) wM (Memref.isWhole_whole _)
      sxM (Memref.isWhole_whole _) swM (Memref.isWhole_whole _) oM hoM bM hbM cc0_scratch1 cc0_scratch2 cc0_scratch3 cc0_scratch4 from rfl).trans
    (body_eq xM (Memref.isWhole_whole _) wM (Memref.isWhole_whole _) sxM (Memref.isWhole_whole _) swM (Memref.isWhole_whole _) oM hoM bM hbM
      cc0_scratch1 cc0_scratch2 cc0_scratch3 cc0_scratch4)

/-- What stands staged when the body runs. -/
theorem staged (c : Dev nD) (d0 d1 d2 d3) :
    (dats m 0 c).before (0 : Fin 4) t0_0 d0 = (ops m c).x ∧ (dats m 0 c).before (1 : Fin 4) t0_0 d1 = (ops m c).w
      ∧ (dats m 0 c).before (2 : Fin 4) t0_0 d2 = (ops m c).sx ∧ (dats m 0 c).before (3 : Fin 4) t0_0 d3 = (ops m c).sw := by
  refine ⟨?_, ?_, ?_, ?_⟩
  · unfold Dat.before; rw [if_pos (fetch0_0 t0_0)]; rfl
  · unfold Dat.before; rw [if_pos (fetch0_1 t0_0)]; rfl
  · unfold Dat.before; rw [if_pos (fetch0_2 t0_0)]; rfl
  · unfold Dat.before; rw [if_pos (fetch0_3 t0_0)]; rfl

/-- The body between what the pipeline gives it and what it wants back. -/
theorem run_point (c : Dev nD) : BodyObligation (dats (F := F) m 0 c) (defs₀ (F := F)) 𝒱₀ 0 Set.univ := fun t => by
  rw [fin_N0 t]
  rw [bigSep_W0, bigSep_W0]
  simp only [whole_eq]
  rw [point_eq, show (dats m 0 c).Φ t0_0.castSucc = iprop(ready m c ∗ some' c cc0_scratch0) from rfl, show (dats m 0 c).Φ t0_0.succ = left (ops m) c from rfl,
    show (dats m 0 c).after 0 t0_0 = (ops m c).x from rfl, show (dats m 0 c).after 1 t0_0 = (ops m c).w from rfl,
    show (dats m 0 c).after 2 t0_0 = (ops m c).sx from rfl, show (dats m 0 c).after 3 t0_0 = (ops m c).sw from rfl]
  unfold Dat.owesAt Pipeline.owesWithin
  rw [show (dats m 0 c).owed t0_0.castSucc = owed₀ c from rfl, show (dats m 0 c).owed t0_0.succ = 0 from rfl]
  unfold ready
  iintro ⟨⟨⟨⟨%K, #HI⟩, Hh, Hm⟩, Hs⟩, ⟨%W, -, HO⟩, ⟨%d0, H0⟩, ⟨%d1, H1⟩, ⟨%d2, H2⟩, ⟨%d3, H3⟩⟩
  obtain ⟨e0, e1, e2, e3⟩ := staged m c d0 d1 d2 d3
  rw [e0, e1, e2, e3]
  ihave H := (to_streams (ops m) K c) $$ [Hh Hm Hs]
  · isplitr; · iexact HI
    isplitl [Hh]; · iexact Hh
    isplitl [Hs]; · iexact Hs
    iexact Hm
  icases H with ⟨Ht, Hp, Hd, HS⟩
  iapply (run_body (ops m) K c) $$ [HO Ht Hp Hd HS H0 H1 H2 H3]
  · isplitr; · iexact HI
    unfold bodyPre given owe
    isplitl [HO]; · (iexists W; iexact HO)
    isplitl [Ht]; · iexact Ht
    isplitl [Hp]; · iexact Hp
    isplitl [Hd]; · iexact Hd
    isplitl [H0 H1 H2 H3]
    · isplitl [H0]; · iexact H0
      isplitl [H1]; · iexact H1
      isplitl [H2]; · iexact H2
      iexact H3
    iexact HS
  unfold hub
  rw [owed_done]
  unfold owe given
  iintro ⟨Hp, ⟨%W', HO⟩, HG, HS⟩
  imod (from_streams (ops m) K c) $$ [Hp HS] with HL
  · isplitr; · iexact HI
    isplitl [Hp]; · iexact Hp
    iexact HS
  imodintro
  isplitl [HL]; · iexact HL
  isplitl [HO]
  · iexists W'
    isplitr; · ipureintro; exact fun _ _ => Or.inl trivial
    iexact HO
  iexact HG

/-! ## The launch -/

section Launch

variable (val : Fin 4 → ℕ → Dev nD → Blk F)

/-- The kernel's own semaphores. -/
abbrev osem : Job × Fin 4 → SemLoc sig := fun x => csem (some x)
theorem ownSemFacts : Pipeline.OwnSemFacts cfg0.spec osem := by decide +kernel

abbrev ownZero (c : Dev nD) : sProp 𝕄 :=
  Pipeline.ownSems0 (Ix := ℕ) (Name := ℕ) (U := UU) (Lvl := ℕ) (Val := Elt F) (τ := τ) osem c

/-- With the barrier's they are all the ring's. -/
theorem zeros (c : Dev nD) : iprop(ownZero c ∗ unscopedSems0 c) = (bigSep Finset.univ fun r : Role => semVal (cell c r) 0 : sProp 𝕄) := by
  have hb : (unscopedSems0 c : sProp 𝕄) = semVal (cell c none) 0 := by
    unfold unscopedSems0; rw [bigSep_eq_bigSepL_of_eq [SemLoc.reg barS] (by decide) (by decide)]; rfl
  rw [hb, by_job]
  unfold ownZero Pipeline.ownSems0
  exact BI.Entails.antisymm (show _ ⊢ (_ : sProp 𝕄) from by iintro ⟨H, H'⟩; isplitl [H'] <;> iassumption)
    (show _ ⊢ (_ : sProp 𝕄) from by iintro ⟨H, H'⟩; isplitl [H'] <;> iassumption)

def u₀ : UU :=
  (initOf (Pipeline.cells cfgs cellOf_inj) (Pipeline.launchToks cfgs cellOf_inj), initOf cells coins)

/-- What the launch's algebra makes for a device, -/
def G (c : Dev nD) : sProp 𝕄 :=
  iprop(bigSep Finset.univ (fun r : Role => roundState ER (rd val) (cell c r) 0)
    ∗ bigSep Finset.univ (fun r : Role => pos c r 0) ∗ bigSep Finset.univ (fun r : Role => at' c r 0) ∗ bigSep Finset.univ (purse c))
/-- what the schedule makes of that, -/
def known (K : Dev nD × Role → ℕ) : sProp 𝕄 :=
  iprop((bigSep Finset.univ fun cr : Dev nD × Role => cellInv ER (rd val) (K cr) (cell cr.1 cr.2))
    ∗ bigSep Finset.univ fun cr : Dev nD × Role => reached ER (cell cr.1 cr.2) 0)
instance known_persistent (K : Dev nD × Role → ℕ) : BI.Persistent (known val K) := by unfold known; infer_instance
/-- and each device's part of it. -/
def G' (c : Dev nD) : sProp 𝕄 := iprop((∃ K, known val K) ∗ bigSep Finset.univ (fun r : Role => pos c r 0) ∗ payToks c)

theorem fund_ring : BI.own (ER (initOf cells coins)) ⊢ (|==> bigSep Finset.univ (G val) : sProp 𝕄) := by
  have hX (Φ : GSem nD τ sig → sProp 𝕄) : bigSep cells Φ = bigSep Finset.univ fun c : Dev nD => bigSep Finset.univ fun r : Role => Φ (cell c r) := by
    unfold cells; rw [bigSep_map, bigSep_univ_prod (M := 𝕄)]; rfl
  have hT : bigSep coins (fun x => (dutyTok ER x.1 x.2.1 x.2.2 : sProp 𝕄)) = bigSep Finset.univ fun c : Dev nD => bigSep Finset.univ (purse c) := by
    unfold coins; rw [bigSep_map, bigSep_univ_prod (M := 𝕄), bigSep_univ_prod (M := 𝕄)]; rfl
  iintro HX
  imod (Rounds.fund ER (rd val) cells coins) $$ HX with ⟨Hst, Hr, Hat, Htok⟩
  imodintro
  ihave Hst' := (Entails.of_eq (hX fun g => roundState ER (rd val) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- A device's semaphores are put under the schedule. -/
theorem alloc (c : Dev nD) :
    iprop(ownZero c ∗ unscopedSems0 c ∗ G val c)
      ⊢ |={Set.univ}=> iprop(bigSep Finset.univ (fun r : Role => iprop(∃ κ : ℕ, cellInv ER (rd val) κ (cell c r)))
          ∗ bigSep Finset.univ (fun r : Role => pos c r 0) ∗ bigSep Finset.univ (fun r : Role => at' c r 0) ∗ bigSep Finset.univ (purse c)) := by
  unfold G
  iintro ⟨Hos, Hus, Hst, Hrest⟩
  ihave Hv := (Entails.of_eq (zeros (F := F) c)) $$ [Hos Hus]
  · isplitl [Hos] <;> iassumption
  imod (show iprop((bigSep Finset.univ fun r : Role => semVal (cell c r) 0) ∗ bigSep Finset.univ fun r : Role => roundState ER (rd val) (cell c r) 0)
      ⊢ (|={Set.univ}=> bigSep Finset.univ fun r : Role => iprop(∃ κ : ℕ, cellInv ER (rd val) κ (cell c r)) : sProp 𝕄) from by
        rw [← bigSep_sep']
        exact (bigSep_mono fun r _ => (Rounds.body_intro ER (rd val) (cell c r)).trans inv_alloc).trans (bigSep_fupd _ _)) $$ [Hv Hst] with Hinv
  · isplitl [Hv] <;> iassumption
  imodintro
  isplitl [Hinv]; · iexact Hinv
  iexact Hrest

/-- Everyone learns of everyone's semaphores, and the tokens are dealt. -/
theorem regroup :
    (bigSep Finset.univ fun c : Dev nD => iprop(bigSep Finset.univ (fun r : Role => iprop(∃ κ : ℕ, cellInv ER (rd val) κ (cell c r)))
          ∗ bigSep Finset.univ (fun r : Role => pos c r 0) ∗ bigSep Finset.univ (fun r : Role => at' c r 0) ∗ bigSep Finset.univ (purse c)) : sProp 𝕄)
      ⊢ bigSep Finset.univ (G' val) := by
  unfold G'
  simp only [bigSep_sep']
  rw [← bigSep_univ_prod (fun cr : Dev nD × Role => iprop(∃ κ : ℕ, cellInv ER (rd val) κ (cell cr.1 cr.2))),
    ← bigSep_univ_prod (fun cr : Dev nD × Role => (reached ER (cell cr.1 cr.2) 0 : sProp 𝕄))]
  iintro ⟨HI, Hat, #HR, Htok⟩
  ihave HK := (BI.bigSep_exists_pi Finset.univ (fun (cr : Dev nD × Role) (κ : ℕ) => (cellInv ER (rd val) κ (cell cr.1 cr.2) : sProp 𝕄))) $$ HI
  icases HK with ⟨%K, #HI⟩
  isplitr
  · iapply (bigSep_of_persistent (Finset.univ : Finset (Dev nD)) (iprop(∃ K, known val K)))
    iexists K
    unfold known
    isplitl; · iexact HI
    iexact HR
  isplitl [Hat]; · iexact Hat
  iapply (toks_dealt (F := F)); iexact Htok

theorem glob : (bigSep Finset.univ fun c => iprop(ownZero c ∗ unscopedSems0 c ∗ G val c) : sProp 𝕄) ⊢ |={Set.univ}=> bigSep Finset.univ (G' val) :=
  ((bigSep_mono fun c _ => alloc val c).trans (bigSep_fupd _ _)).trans (BI.fupd_mono (regroup val))

end Launch

/-! ## The pipeline's side conditions -/

theorem share_eq (c : Dev nD) (w : Fin cfg0.W) : (dats m 0 c).share w = fullShare := by unfold Dat.share; split <;> rfl

theorem ready_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (carry (ops m)) c)
      ⊢ |={Set.univ}=> iprop(ready m c ∗ emp) := by
  rw [Pipeline.unscopedRestP_none, unscopedRest0_eq]
  unfold G' known ready hand facts
  iintro ⟨Hm, #Hlev, Hcr, -, ⟨⟨%K, #HI, #HR⟩, Hp, Ht⟩⟩
  ihave Hc := (creds (F := F) c) $$ Hcr
  imodintro
  isplitl
  · isplitr
    · iexists K
      isplitr; · iexact HI
      isplitr; · iexact HR
      iexact Hlev
    isplitl [Hp Ht Hc]
    · isplitl [Hp]; · iexact Hp
      isplitl [Ht]; · iexact Ht
      iexact Hc
    iexists _; iexact Hm
  · iempintro

theorem enter (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(ready m c ∗ some' c cc0_scratch0) from rfl, scopedRest0_eq]
  iintro ⟨Hs, -, Hr⟩
  isplitl [Hs]; · iexact Hs
  iexact Hr

/-- What is read off at the end: the result, and the barrier at zero. -/
def done (c : Dev nD) : sProp 𝕄 :=
  iprop(unscopedSems0 c ∗ ∃ f : Buf (Elt F) ((c : Thread nD τ).loc main_v1), ⌜Made (carry (ops m)) c f⌝ ∗ ((c : Thread nD τ).loc main_v1) ↦{fullShare} f)

theorem leave (c : Dev nD) :
    (dats m 0 c).Φ (Fin.last cfg0.N) ⊢ iprop(done m c ∗ ownZero c ∗ Pipeline.scopedRest cfg0.spec c) := by
  rw [show (dats m 0 c).Φ (Fin.last cfg0.N) = left (ops m) c from rfl, scopedRest0_eq]
  unfold left done
  rw [← zeros]
  iintro ⟨⟨Ho, Hu⟩, Hs, Hm⟩
  isplitl [Hu Hm]
  · isplitl [Hu] <;> iassumption
  isplitl [Ho]; · iexact Ho
  iexact Hs

theorem waits (c : Dev nD) : (levAts L lv : sProp 𝕄) ⊢ Pipeline.cellsWaits cfgs (dats m) 0 0 c :=
  Pipeline.cellsWaits_intro cfgs (dats m) 0 0 c fun w s t =>
    mayWait_other c _ (by fin_cases w <;> fin_cases s <;> decide) _ (by
      rcases t with ⟨_ | _, ht⟩
      · exact Or.inl rfl
      · exact Or.inr rfl)

/-! ## The run -/

set_option maxRecDepth 8000 in
/-- Every execution of the kernel on the eight devices ends, with each device's result made of the streams' blocks, its
    arguments as they were, and every semaphore at zero. -/
theorem run_main : θ_run defs (onTc (τ := τ) (main (F := F))) ⟨m, fun _ => 0, ρ⟩ (fun r => (∀ c : Dev nD,
      (∀ w : Fin cfg0.W, r.2.mem ((cfg0.win w).arr.view.loc (c : Thread nD τ)) = (dats m 0 c).arrAt w cfg0.N)
      ∧ Made (carry (ops m)) c (r.2.mem ((c : Thread nD τ).loc main_v1))) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (run_point m c).loose) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G (carry (ops m))) (G' := G' (carry (ops m))) (u₀ := u₀)
    (hu₀ := by
      unfold u₀
      iintro Hu
      ihave H := (ownU_pair _ _) $$ Hu
      icases H with ⟨HP, HX⟩
      imod (fund_ring (carry (ops m))) $$ HX with HG
      imodintro
      isplitl [HP] <;> iassumption)
    (hglob := glob (carry (ops m)))
    (hA := fun _ _ => rfl) (hpf := fun _ k => k.elim0)
    (X := ready m) (Y := done m) (Z := fun _ => iprop(emp))
    (hX := ready_intro m ρ) (hin := enter m) (hout := leave m)
    (QY := fun c s => Made (carry (ops m)) c (s.mem ((c : Thread nD τ).loc main_v1))
      ∧ ∀ sm : SemLoc sig, sm.isScoped .tc = false → s.sem ((c.tc : Thread nD τ), sm) = 0)
    (hY := fun c s' => by
      unfold done
      iintro ⟨⟨Hu, %f, %hf, Hm⟩, -, HSI⟩
      imod (Pipeline.unscopedSems0_read (X := unscopedSems0 c) (c := c) fupd_intro s') $$ [Hu HSI] with ⟨%hz, HSI⟩
      · isplitl [Hu] <;> iassumption
      icombine HSI Hm gives %h0
      imodintro
      isplitr
      · ipureintro
        refine ⟨?_, hz⟩
        rw [Buf.eq_of_forall_mem_univ h0]; exact hf
      iexact HSI)
    (hQ := fun _ h hs => ⟨fun c => ⟨(h c).1, (h c).2.2.1⟩, sem_eq_zero hs fun c => (h c).2.2.2⟩)

/-- The same, the arguments named. -/
theorem run_ends : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ Made (carry (ops m)) c (r.2.mem ((c : Thread nD τ).loc main_v1))) ∧ r.2.sem = fun _ => 0) :=
  (θ_run defs _ _).mono (fun _ h => ⟨fun c => ⟨⟨((h.1 c).1 0).trans ((dats m 0 c).arrAt_in 0 rfl _), ((h.1 c).1 1).trans ((dats m 0 c).arrAt_in 1 rfl _),
    ((h.1 c).1 2).trans ((dats m 0 c).arrAt_in 2 rfl _), ((h.1 c).1 3).trans ((dats m 0 c).arrAt_in 3 rfl _)⟩, (h.1 c).2⟩, h.2⟩) (run_main m ρ)

end Cert.KernelIdeal.Ring

end
-- ==== Proof.Ref.lean ====
/- What the reference computes: at each place, the dot product of a row of `x` and a column of `w` over all 4096
   places, times the product of the two scales, clipped below at zero. -/
module

public import proofs.«01_k».proof.Proof.Gen.ReferenceIdeal.Value
public import Idealize.ShloMosaic.Lib.MatmulPlain
public import Idealize.ShloMosaic.Lib.Pipeline.ValueKit

@[expose] public section

noncomputable section

namespace Cert.ReferenceIdeal.Whole

open Idealize.ShloMosaic Idealize.ShloMosaic.TcCoe Idealize.SL.Sem
open Cert.ReferenceIdeal Cert.ReferenceIdeal.Gen Cert.ReferenceIdeal.Value
open scoped BigOperators

variable {F : FTy → Type} [FloatOps F]

/-- The one place of a scale. -/
def one : S1.Idx := ValueIdx.ix1 (n := 1) 0
theorem eq_one (j : S1.Idx) : j = one := by
  funext a; apply Fin.ext
  match a with
  | ⟨0, _⟩ => have h : (j 0).val < 1 := (j 0).isLt; show (j 0).val = 0; omega

/-- The result as a function of the four arguments. -/
def result (x : Vec F S4096x4096 .fp8e5m2) (w : Vec F S4096x2048 .fp8e5m2) (sx sw : Vec F S1 .f32) : Vec F S4096x2048 .bf16 :=
  k0_pay1 x w (sx one) (sw one)

theorem origin : (![0, 0] : Fin 2 → Nat) = fun _ => 0 := by
  funext a
  match a with
  | ⟨0, _⟩ => rfl
  | ⟨1, _⟩ => rfl

/-- The body's one store is of the whole result. -/
theorem stored (c : Dev nD) (a0 : Memref sig .tc .vmem S4096x4096 .fp8e5m2) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .bf16) (h4 : a4.IsWhole)
    (x : Vec F S4096x4096 .fp8e5m2) (w : Vec F S4096x2048 .fp8e5m2) (sx sw : Vec F S1 .f32) :
    out0_A_4 c a0 h0 a1 h1 a2 h2 a3 h3 a4 h4 x w sx sw = result x w sx sw := by
  unfold out0_A_4
  rw [View.read_writes_junk_eq_canon]
  change View.canon ([⟨Rect.unit (s := S4096x2048) ![0, 0] S4096x2048.size inb_S4096x2048_S4096x2048_0_0,
      k0_pay1
        (a0.view.readAt (Elt F) (Rect.unit (s := S4096x4096) ![0, 0] S4096x4096.size inb_S4096x4096_S4096x4096_0_0).toLoadRect (h0.unread x))
        (a1.view.readAt (Elt F) (Rect.unit (s := S4096x2048) ![0, 0] S4096x2048.size inb_S4096x2048_S4096x2048_0_0).toLoadRect (h1.unread w))
        (a2.view.readAt (Elt F) (Rect.unit (s := S1) ![0] S1.size inb_S1_S1_0).toLoadRect (h2.unread sx) _)
        (a3.view.readAt (Elt F) (Rect.unit (s := S1) ![0] S1.size inb_S1_S1_0).toLoadRect (h3.unread sw) _)⟩] :
      List (View.Piece (Elt F) S4096x2048 .bf16)) = _
  rw [View.canon_unit_zero origin, View.readAt_eq_ld, View.readAt_eq_ld, View.readAt_eq_ld, View.readAt_eq_ld, h0.read_unread, h1.read_unread,
    h2.read_unread, h3.read_unread, View.ld_unit_zero origin, View.ld_unit_zero origin]
  exact congrArg₂ (k0_pay1 x w) (congrArg sx (eq_one _)) (congrArg sw (eq_one _))

variable (m : (ℓ : Loc nD τ sig) → Buf (Elt F) ℓ) (ρ : Dev nD → PrngReg)

/-- The one grid point. -/
abbrev pt : Fin cfg0.N := (⟨0, by decide⟩ : Fin grid0.N)

/-- Each window's one block is its whole array. -/
theorem block_x (j : S4096x4096.Idx) : ((cfg0.win 0).blk pt).view.emb j = j :=
  funext fun a => Fin.ext (win0_0.rect_emb_val_of_index_zero pt a rfl j)
theorem block_w (j : S4096x2048.Idx) : ((cfg0.win 1).blk pt).view.emb j = j :=
  funext fun a => Fin.ext (win0_1.rect_emb_val_of_index_zero pt a rfl j)
theorem block_sx (j : S1.Idx) : ((cfg0.win 2).blk pt).view.emb j = j :=
  funext fun a => Fin.ext (win0_2.rect_emb_val_of_index_zero pt a rfl j)
theorem block_sw (j : S1.Idx) : ((cfg0.win 3).blk pt).view.emb j = j :=
  funext fun a => Fin.ext (win0_3.rect_emb_val_of_index_zero pt a rfl j)
theorem block_out (j : S4096x2048.Idx) : ((cfg0.win 4).blk pt).view.emb j = j :=
  funext fun a => Fin.ext (win0_4.rect_emb_val_of_index_zero pt a rfl j)

theorem read_x (c : Dev nD) : iblk m c 0 pt = m ((c : Thread nD τ).loc main_arg0) := by
  rw [← V_main_arg0 m c]; exact funext fun j => congrArg (V m c main_arg0) (block_x j)
theorem read_w (c : Dev nD) : iblk m c 1 pt = m ((c : Thread nD τ).loc main_arg1) := by
  rw [← V_main_arg1 m c]; exact funext fun j => congrArg (V m c main_arg1) (block_w j)
theorem read_sx (c : Dev nD) : iblk m c 2 pt = m ((c : Thread nD τ).loc main_arg2) := by
  rw [← V_main_arg2 m c]; exact funext fun j => congrArg (V m c main_arg2) (block_sx j)
theorem read_sw (c : Dev nD) : iblk m c 3 pt = m ((c : Thread nD τ).loc main_arg3) := by
  rw [← V_main_arg3 m c]; exact funext fun j => congrArg (V m c main_arg3) (block_sw j)

/-- The result array after the run. -/
theorem at_end (c : Dev nD) : (dats m 0 c).arrAt 4 cfg0.N = result (m ((c : Thread nD τ).loc main_arg0)) (m ((c : Thread nD τ).loc main_arg1))
    (m ((c : Thread nD τ).loc main_arg2)) (m ((c : Thread nD τ).loc main_arg3)) := by
  have h := blocks4 m c pt (flush0_4 _)
  rw [flushed4_A, stored, read_x, read_w, read_sx, read_sw] at h
  funext j
  exact (congrArg ((dats m 0 c).arrAt 4 cfg0.N) (block_out j).symm).trans (congrFun h j)

/-- Every execution of the reference ends, with the result at its function of the arguments and these as they were. -/
theorem run_whole : θ_run defs (onTc (τ := τ) (main (F := F))) ⟨m, fun _ => 0, ρ⟩ fun r => ∀ c : Dev nD,
      r.2.mem ((c : Thread nD τ).loc main_v0) = result (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (at_end m c), (h c).2⟩) (run_blocks m ρ)

/-- The result at a place: the dot product over all 4096 places, scaled, clipped below at zero. -/
theorem result_apply (x : Vec Ideal S4096x4096 .fp8e5m2) (w : Vec Ideal S4096x2048 .fp8e5m2) (sx sw : Vec Ideal S1 .f32) (r : Fin 4096)
    (l : Fin 2048) : (result x w sx sw (ValueIdx.ix2 r l) : EReal)
      = max ((∑ t : Fin 4096, (x (ValueIdx.ix2 r t) : EReal) * w (ValueIdx.ix2 t l)) * ((sx one : EReal) * sw one)) 0 := by
  have h := Ideal.matmul_plain_apply (M := 4096) (K := 4096) (N := 2048) (φ₁ := .f32) (φ₂ := .f32) none x w
    (fun _ => Ideal.ofBits .f32 0x00000000#32) r l
  rw [Ideal.ofBits_zero_f32, zero_add] at h
  rw [← h, ← Ideal.ofBits_zero_f32]
  rfl

end Cert.ReferenceIdeal.Whole

end
-- ==== Proof.Sum.lean ====
/- What the streams carry, in exact arithmetic: each block of the result is the sum of all eight devices' partial
   products of that block, scaled and clipped below at zero. -/
module

public import proofs.«01_k».proof.Proof.Body
public import proofs.«01_k».proof.Proof.Blocks
public import Idealize.ShloMosaic.Lib.MatmulPlain
public import Idealize.ShloMosaic.Lib.Pipeline.ValueKit

@[expose] public section

noncomputable section

namespace Cert.KernelIdeal.Ring

open Idealize.ShloMosaic Idealize.ShloMosaic.TcCoe
open Cert.KernelIdeal Cert.KernelIdeal.Gen
open scoped BigOperators

/-! ## A partial product at a place -/

/-- Row `p` of row block `a`. -/
def rowIn (a : Fin 8) (p : Fin 512) : Fin 4096 := ⟨512 * a.val + p.val, by omega⟩
/-- Column `l` of stream `k`'s columns. -/
def colIn (k : Fin 4) (l : Fin 512) : Fin 2048 := ⟨512 * k.val + l.val, by omega⟩

/-- The dot product of a row of a device's `x` and a column of its `w`. -/
def dot (x : S4096x512.Idx → EReal) (w : S512x2048.Idx → EReal) (r : Fin 4096) (q : Fin 2048) : EReal :=
  ∑ t : Fin 512, x (ValueIdx.ix2 r t) * w (ValueIdx.ix2 t q)

/-- One device's share of the result at row `p` of row block `a` and column `l` of stream `k`. -/
def share (o : Ops Ideal) (a : Fin 8) (k : Fin 4) (p l : Fin 512) : EReal := dot o.x o.w (rowIn a p) (colIn k l)

theorem xAt_at (o : Ops Ideal) (a : Fin 8) {off : Fin 2 → ℕ} (h : ∀ b, off b + S512x512.size b ≤ S4096x512.size b)
    (e : off = ![512 * a.val, 0]) (p t : Fin 512) : xAt o off h (ValueIdx.ix2 p t) = o.x (ValueIdx.ix2 (rowIn a p) t) := by
  subst e
  refine congrArg o.x (funext fun b => Fin.ext ?_)
  match b with
  | ⟨0, _⟩ => show 512 * a.val + 1 * p.val = 512 * a.val + p.val; omega
  | ⟨1, _⟩ => show 0 + 1 * t.val = t.val; omega
theorem wAt_at (o : Ops Ideal) (k : Fin 4) (t l : Fin 512) : wAt o k (ValueIdx.ix2 t l) = o.w (ValueIdx.ix2 t (colIn k l)) := by
  refine congrArg o.w (funext fun b => Fin.ext ?_)
  match b with
  | ⟨0, _⟩ => show 0 + 1 * t.val = t.val; omega
  | ⟨1, _⟩ => show 512 * k.val + 1 * l.val = 512 * k.val + l.val; omega

/-- A product of two blocks at a place. -/
theorem product_at (x w : Vec Ideal S512x512 .fp8e5m2) (p l : Fin 512) :
    (k0_pay9 x w (ValueIdx.ix2 p l) : EReal) = ∑ t : Fin 512, (x (ValueIdx.ix2 p t) : EReal) * w (ValueIdx.ix2 t l) := by
  have h := Ideal.matmul_plain_apply (M := 512) (K := 512) (N := 512) (φ₁ := .bf16) (φ₂ := .bf16) none x w
    (fun _ => Ideal.ofBits .f32 0x00000000#32) p l
  rw [Ideal.ofBits_zero_f32, zero_add] at h
  rw [← h, ← Ideal.ofBits_zero_f32]
  unfold k0_pay9
  simp only [shapeCast_self]
  rfl

/-! ## The payloads, block by block -/

/-- A block put in a slot's shape and read back is the block. -/
theorem dn_cast (y : S512x512.Idx → EReal) : dn (F := Ideal) (shapeCast S1x1x512x512 y shapeCasts_S512x512_S1x1x512x512) = y :=
  shapeCast_shapeCast y _ _
/-- The first payload is the product, put in a slot's shape. -/
theorem dn_first (x w : Vec Ideal S512x512 .fp8e5m2) : dn (k0_pay8 x w) = k0_pay9 x w := by
  unfold k0_pay8
  exact dn_cast _
/-- A hop that adds, adds. -/
theorem dn_add (v : FVec Ideal S512x512 .f32) (u : Blk Ideal) (i : S512x512.Idx) :
    (dn (k0_pay13 v (up u)) i : EReal) = (u i : EReal) + v i := by
  have e : ∀ j, (up u) (Shape.reshapeEquiv shapeCasts_S1x1x512x512_S512x512 j) = u j := fun j => congrFun (dn_up u) j
  unfold k0_pay13
  refine (congrFun (dn_cast _) i).trans ?_
  exact congrArg (· + (v i : EReal)) (e i)
/-- The hop that finishes adds, scales and clips. -/
theorem dn_fin (z : Ideal .f32) (v : FVec Ideal S512x512 .f32) (u : Blk Ideal) (i : S512x512.Idx) :
    (dn (k0_pay66 z v (up u)) i : EReal) = max (((u i : EReal) + v i) * z) 0 := by
  have e : ∀ j, (up u) (Shape.reshapeEquiv shapeCasts_S1x1x512x512_S512x512 j) = u j := fun j => congrFun (dn_up u) j
  unfold k0_pay66
  refine (congrFun (dn_cast _) i).trans ?_
  rw [← Ideal.ofBits_zero_f32]
  exact congrArg (fun q : EReal => max ((q + (v i : EReal)) * z) (Ideal.ofBits .f32 0x00000000#32)) (e i)

/-! ## Hop by hop -/

/-- The row block stream `k` works on at hop `h`. -/
def aRow (k : Fin 4) (h : ℕ) (c : Dev nD) : Fin 8 :=
  ⟨if k.val < 2 then (place c + 16 - h) % 8 else (place c + h) % 8, by split <;> exact Nat.mod_lt _ (by decide)⟩

theorem off1_row : ∀ (k : Fin 4) (c : Dev nD), k0_off1 c = ![512 * (aRow k 0 c).val, 0] := by decide +kernel
theorem xOff_row : ∀ (k : Fin 4) (r : Fin 7) (c : Dev nD), xOff k r c = ![512 * (aRow k (r.val + 1) c).val, 0] := by decide +kernel
theorem aRow_src : ∀ (k : Fin 4) (h : Fin 7) (c : Dev nD), aRow k h.val (src k c) = aRow k (h.val + 1) c := by decide +kernel
theorem src_inj : ∀ (k : Fin 4) (c : Dev nD), Function.Injective fun j : Fin 8 => (src k)^[j.val] c := by decide +kernel
theorem aRow_end : ∀ (k : Fin 4) (j : Fin 8) (c : Dev nD), (aRow k 7 ((src k)^[j.val] c)).val = oRow k j c := by decide +kernel

variable (O : Dev nD → Ops Ideal)

theorem first_at (c : Dev nD) (k : Fin 4) (p l : Fin 512) :
    (dn (first (O c) c k) (ValueIdx.ix2 p l) : EReal) = share (O c) (aRow k 0 c) k p l := by
  unfold first share dot
  rw [dn_first, product_at]
  exact Finset.sum_congr rfl fun t _ => by rw [xAt_at (O c) (aRow k 0 c) _ (off1_row k c), wAt_at]
theorem more_at (c : Dev nD) (k : Fin 4) (r : Fin 7) (p l : Fin 512) :
    (more (O c) c r k (ValueIdx.ix2 p l) : EReal) = share (O c) (aRow k (r.val + 1) c) k p l := by
  unfold more share dot
  rw [product_at]
  exact Finset.sum_congr rfl fun t _ => by rw [xAt_at (O c) (aRow k (r.val + 1) c) _ (xOff_row k r c), wAt_at]

/-- Before the last hop, a stream carries the sum of the shares of the devices it has passed. -/
theorem carry_sum (k : Fin 4) (p l : Fin 512) : ∀ (h : ℕ), h ≤ 6 → ∀ c : Dev nD,
    (carry O k h c (ValueIdx.ix2 p l) : EReal) = ∑ j ∈ Finset.range (h + 1), share (O ((src k)^[j] c)) (aRow k h c) k p l
  | 0, _, c => by
      rw [Finset.sum_range_one]
      exact first_at O c k p l
  | h + 1, hh, c => by
      rw [carry_add O k ⟨h, by omega⟩ c, dn_add, carry_sum k p l h (by omega) (src k c), more_at, aRow_src k ⟨h, by omega⟩ c]
      exact (Finset.sum_range_succ' (fun j => share (O ((src k)^[j] c)) (aRow k (h + 1) c) k p l) (h + 1)).symm

/-- At the last hop it carries the sum of all eight devices' shares, scaled and clipped. -/
theorem carry_full (k : Fin 4) (p l : Fin 512) (c : Dev nD) : (carry O k 7 c (ValueIdx.ix2 p l) : EReal)
    = max ((∑ d : Dev nD, share (O d) (aRow k 7 c) k p l) * scale (O c)) 0 := by
  rw [carry_fin, dn_fin, carry_sum O k p l 6 (by omega) (src k c), more_at]
  have hs : (∑ j ∈ Finset.range 8, share (O ((src k)^[j] c)) (aRow k 7 c) k p l) = ∑ d : Dev nD, share (O d) (aRow k 7 c) k p l := by
    rw [Finset.sum_range]
    exact Fintype.sum_bijective _ (Finite.injective_iff_bijective.mp (src_inj k c)) _ _ fun _ => rfl
  rw [← hs, aRow_src k ⟨6, by decide⟩ c]
  exact congrArg (fun q : EReal => max (q * scale (O c)) 0)
    (Finset.sum_range_succ' (fun j => share (O ((src k)^[j] c)) (aRow k 7 c) k p l) 7).symm

/-- After it, what a neighbour finished is passed on. -/
theorem carry_late (k : Fin 4) : ∀ (j : ℕ) (c : Dev nD), carry O k (j + 7) c = carry O k 7 ((src k)^[j] c)
  | 0, _ => rfl
  | j + 1, c => by
      rw [show j + 1 + 7 = j + 8 from rfl, carry_pass, carry_late k j (src k c)]
      rfl

/-! ## The result -/

/-- A device's result at each place, if every block of it is what its stream carried: the sum of all devices' shares,
    scaled by the scale of the device that finished the block, and clipped. -/
theorem made_at (c : Dev nD) (X : S4096x2048.Idx → Elt Ideal .bf16) (h : Made (carry O) c X) (z : EReal) (hz : ∀ d, scale (O d) = z)
    (a : Fin 8) (k : Fin 4) (p l : Fin 512) :
    (X (ValueIdx.ix2 (rowIn a p) (colIn k l)) : EReal) = max ((∑ d : Dev nD, share (O d) a k p l) * z) 0 := by
  obtain ⟨j, hj⟩ := oRow_onto k c a
  have ha : aRow k 7 ((src k)^[j.val] c) = a := Fin.ext ((aRow_end k j c).trans hj)
  have e : (outR k j c).emb (ValueIdx.ix2 p l) = ValueIdx.ix2 (rowIn a p) (colIn k l) := by
    funext b; apply Fin.ext
    rw [Rect.emb_apply]
    show oOff k j c b + 1 * _ = _
    rw [oOff_eq, hj]
    match b with
    | ⟨0, _⟩ => show 512 * a.val + 1 * p.val = 512 * a.val + p.val; omega
    | ⟨1, _⟩ => show 512 * k.val + 1 * l.val = 512 * k.val + l.val; omega
  have hX := congrFun (h (k, j)) (ValueIdx.ix2 p l)
  rw [← e]
  refine hX.trans ?_
  rw [carry_late, carry_full, ha, hz]

end Cert.KernelIdeal.Ring

end
-- ==== Proof.Join.lean ====
/- The two programs agree in exact arithmetic: the sum over the devices of dot products over 512 places each is the
   dot product over all 4096. -/
module

public import proofs.«01_k».proof.Proof.Ref
public import proofs.«01_k».proof.Proof.Sum
public import proofs.«01_k».proof.Proof.Start
public import Idealize.ShloMosaic.Lib.Layout

@[expose] public section

noncomputable section

namespace Cert.KernelIdeal.Ring

open Idealize.ShloMosaic Idealize.ShloMosaic.TcCoe
open Cert.KernelIdeal Cert.KernelIdeal.Gen
open scoped BigOperators

variable (m : (ℓ : Loc nD τ sig) → Buf (Elt Ideal) ℓ)

/-! ## A device's operands are its arguments -/

theorem ops_x (c : Dev nD) : (ops m c).x = m ((c : Thread nD τ).loc main_arg0) :=
  funext fun j => congrArg (m ((c : Thread nD τ).loc main_arg0))
    (funext fun a => Fin.ext (win0_0.rect_emb_val_of_index_zero (0 : Fin 1) a rfl j))
theorem ops_w (c : Dev nD) : (ops m c).w = m ((c : Thread nD τ).loc main_arg1) :=
  funext fun j => congrArg (m ((c : Thread nD τ).loc main_arg1))
    (funext fun a => Fin.ext (win0_1.rect_emb_val_of_index_zero (0 : Fin 1) a rfl j))
theorem ops_sx (c : Dev nD) : (ops m c).sx = m ((c : Thread nD τ).loc main_arg2) :=
  funext fun j => congrArg (m ((c : Thread nD τ).loc main_arg2))
    (funext fun a => Fin.ext (win0_2.rect_emb_val_of_index_zero (0 : Fin 1) a rfl j))
theorem ops_sw (c : Dev nD) : (ops m c).sw = m ((c : Thread nD τ).loc main_arg3) :=
  funext fun j => congrArg (m ((c : Thread nD τ).loc main_arg3))
    (funext fun a => Fin.ext (win0_3.rect_emb_val_of_index_zero (0 : Fin 1) a rfl j))

/-- The scale is the product of the two scale arguments. -/
theorem scale_at (o : Ops Ideal) : (scale o : EReal)
    = (fun a b : EReal => a * b) (o.sx ReferenceIdeal.Whole.one) (o.sw ReferenceIdeal.Whole.one) :=
  congrArg₂ (fun a b : EReal => a * b) (congrArg o.sx (ReferenceIdeal.Whole.eq_one _)) (congrArg o.sw (ReferenceIdeal.Whole.eq_one _))

/-! ## The sum over devices is the sum over all places -/

/-- Place `t` of device `d`'s 512. -/
def placeIn (d : Fin 8) (t : Fin 512) : Fin 4096 := ⟨512 * d.val + t.val, by omega⟩

/-- A sum over the places, device by device. -/
theorem sum_places (f : Fin 4096 → EReal) : ∑ d : Fin 8, ∑ t : Fin 512, f (placeIn d t) = ∑ s : Fin 4096, f s := by
  rw [← Fintype.sum_prod_type' (fun (d : Fin 8) (t : Fin 512) => f (placeIn d t))]
  refine Fintype.sum_equiv (finProdFinEquiv (m := 8) (n := 512)) _ f fun q => congrArg f (Fin.ext ?_)
  show 512 * q.1.val + q.2.val = q.2.val + 512 * q.1.val
  exact Nat.add_comm _ _

variable (x : ReferenceIdeal.S4096x4096.Idx → EReal) (w : S4096x2048.Idx → EReal)

/-- Block by block, the devices' dot products sum to the whole one. -/
theorem sum_dots (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = Layout.block ⟨2, ![512, 2048]⟩ ⟨2, ![4096, 2048]⟩ 0 8 c w)
    (r : Fin 4096) (q : Fin 2048) : (∑ d : Dev nD, dot (ops m d).x (ops m d).w r q)
      = ∑ s : Fin 4096, x (ValueIdx.ix2 r s) * w (ValueIdx.ix2 s q) := by
  rw [← sum_places]
  refine Finset.sum_congr rfl fun d _ => Finset.sum_congr rfl fun t _ => ?_
  rw [ops_x, ops_w, hx, hw]
  refine congrArg₂ (fun a b : EReal => a * b) (congrArg x (funext fun b => Fin.ext ?_)) (congrArg w (funext fun b => Fin.ext ?_))
  · match b with
    | ⟨0, _⟩ => rfl
    | ⟨1, _⟩ => show d.val * 512 + t.val = 512 * d.val + t.val; omega
  · match b with
    | ⟨0, _⟩ => show d.val * 512 + t.val = 512 * d.val + t.val; omega
    | ⟨1, _⟩ => rfl

/-! ## The results agree -/

/-- A device's result is the reference's, whichever device it is. -/
theorem made_eq (sx sw : S1.Idx → EReal)
    (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = Layout.block ⟨2, ![512, 2048]⟩ ⟨2, ![4096, 2048]⟩ 0 8 c w)
    (hsx : ∀ c : Dev nD, m ((c : Thread nD τ).loc main_arg2) = sx) (hsw : ∀ c : Dev nD, m ((c : Thread nD τ).loc main_arg3) = sw)
    (c : Dev nD) (X : S4096x2048.Idx → Elt Ideal .bf16) (h : Made (carry (ops m)) c X) :
    X = ReferenceIdeal.Whole.result (F := Ideal) x w sx sw := by
  funext i
  have h0 : (i 0).val < 4096 := (i 0).isLt
  have h1 : (i 1).val < 2048 := (i 1).isLt
  have e : i = ValueIdx.ix2 (rowIn ⟨(i 0).val / 512, by omega⟩ ⟨(i 0).val % 512, by omega⟩)
      (colIn ⟨(i 1).val / 512, by omega⟩ ⟨(i 1).val % 512, by omega⟩) := by
    funext b; apply Fin.ext
    match b with
    | ⟨0, _⟩ => show (i 0).val = 512 * ((i 0).val / 512) + (i 0).val % 512; omega
    | ⟨1, _⟩ => show (i 1).val = 512 * ((i 1).val / 512) + (i 1).val % 512; omega
  rw [e]
  refine (made_at (ops m) c X h ((sx ReferenceIdeal.Whole.one : EReal) * sw ReferenceIdeal.Whole.one)
    (fun d => by rw [scale_at, ops_sx, ops_sw, hsx, hsw]) _ _ _ _).trans ?_
  rw [ReferenceIdeal.Whole.result_apply]
  unfold share
  rw [sum_dots m x w hx hw]

end Cert.KernelIdeal.Ring

end
-- ==== Proof.K.ShapeEq.lean ====
/- The printed body is the program of `Shape`. -/
module

public import proofs.«01_k».proof.Proof.K.Shape

@[expose] public section

noncomputable section

namespace Cert.Kernel.Ring

open Idealize.ShloMosaic Idealize.ShloMosaic.TcCoe Idealize.SL.Sem
open Cert.Kernel Cert.Kernel.Gen

variable {F : FTy → Type} [FloatOps F]

/-- The printed body is the program written step by step. -/
theorem body_eq (arg0 : Memref sig .tc .vmem S4096x512 .fp8e5m2) (harg0 : arg0.IsWhole) (arg1 : Memref sig .tc .vmem S512x2048 .fp8e5m2) (harg1 : arg1.IsWhole) (arg2 : Memref sig .tc .smem S1 .f32) (harg2 : arg2.IsWhole) (arg3 : Memref sig .tc .smem S1 .f32) (harg3 : arg3.IsWhole) (arg4 : Memref sig .tc .hbm S4096x2048 .bf16) (harg4 : arg4.IsWhole) (arg5 : Memref sig .tc .vmem S4x2x512x512 .bf16) (harg5 : arg5.IsWhole) (arg6 : DmaSems sig S4) (arg7 : DmaSems sig S4) (arg8 : Sems sig S4) (arg9 : DmaSems sig S4) :
    cc0_body (F := F) arg0 harg0 arg1 harg1 arg2 harg2 arg3 harg3 arg4 harg4 arg5 harg5 arg6 arg7 arg8 arg9
      = body arg0 arg1 arg2 arg3 arg4 harg4 arg5 harg5 arg6 arg7 arg8 arg9 := by
  sl_kernel_rfl

end Cert.Kernel.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Start
public import proofs.«01_k».proof.Proof.Join
public import proofs.«01_k».proof.Proof.K.Start
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨?_, ?_, ?_, trivial, ?_⟩
  · intro m g _
    exact (θ_run Cert.Kernel.defs _ _).mono (fun _ h => ⟨fun c => (h.1 c).1, h.2⟩) (Cert.Kernel.Ring.run_ends (F := Bits) m g)
  · intro m g _
    exact (θ_run Cert.KernelIdeal.defs _ _).mono (fun _ h => ⟨fun c => (h.1 c).1, h.2⟩) (Cert.KernelIdeal.Ring.run_ends (F := Ideal) m g)
  · intro m g _
    exact Cert.ReferenceIdeal.Gen.frame m g
  · intro m g m' g' _ h
    refine ⟨Cert.ReferenceIdeal.Whole.result
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)), ?_, ?_⟩
    · exact (θ_run Cert.KernelIdeal.defs _ _).mono (fun _ r c => ⟨Cert.KernelIdeal.Ring.made_eq m _ _ _ _ (fun c => (h c).1)
        (fun c => (h c).2.1) (fun c => (h c).2.2.1) (fun c => (h c).2.2.2) c _ (r.1 c).2, (r.1 c).1⟩)
        (Cert.KernelIdeal.Ring.run_ends (F := Ideal) m g)
    · exact (θ_run Cert.ReferenceIdeal.defs _ _).mono (fun _ r => r 0) (Cert.ReferenceIdeal.Whole.run_whole (F := Ideal) m' g')⟩

end Cert.Proof

end
